-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slow_finite [hPre_slow_finite : Cert.Pre_slow_finite.Facts] (m : (ℓ : Loc Cert.KernelIdeal.nD Cert.KernelIdeal.τ Cert.KernelIdeal.sig) → Buf (Elt Ideal) ℓ) : Prop :=
  ∀ c : Dev Cert.KernelIdeal.nD,
    (Cert.Pre_slow_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slow_finite [hPre_slow_finite : Cert.Pre_slow_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slow_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_slow_finite [hKernelIdeal : Cert.KernelIdeal.Facts] [hPre_slow_finite : Cert.Pre_slow_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slow_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_slow_finite [hReferenceIdeal : Cert.ReferenceIdeal.Facts] [hPre_slow_finite : Cert.Pre_slow_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slow_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "root_half" .f32 0x3F3504F3#32 (((Real.sqrt 2)⁻¹ : ℝ) : EReal)

def algebraic_KernelIdeal_ReferenceIdeal_pre_slow_finite [hKernelIdeal : Cert.KernelIdeal.Facts] [hReferenceIdeal : Cert.ReferenceIdeal.Facts] [hPre_slow_finite : Cert.Pre_slow_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slow_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_slow_finite : Cert.Pre_slow_finite.Facts),
    quiescent_Kernel (hKernel := hKernel)
    ∧ quiescent_KernelIdeal (hKernelIdeal := hKernelIdeal)
    ∧ quiescent_KernelIdeal_pre_slow_finite (hKernelIdeal := hKernelIdeal) (hPre_slow_finite := hPre_slow_finite)
    ∧ quiescent_ReferenceIdeal (hReferenceIdeal := hReferenceIdeal)
    ∧ quiescent_ReferenceIdeal_pre_slow_finite (hReferenceIdeal := hReferenceIdeal) (hPre_slow_finite := hPre_slow_finite)
    ∧ preserves_Kernel_KernelIdeal
    ∧ algebraic_KernelIdeal_ReferenceIdeal_pre_slow_finite (hKernelIdeal := hKernelIdeal) (hReferenceIdeal := hReferenceIdeal) (hPre_slow_finite := hPre_slow_finite)
-- ==== Pre_slow_finite.lean ====
abbrev S8192x2048 : Shape := ⟨2, ![8192, 2048]⟩
abbrev S1024x2048 : Shape := ⟨2, ![1024, 2048]⟩
abbrev S1024 : Shape := ⟨1, ![1024]⟩
abbrev S64x1024 : Shape := ⟨2, ![64, 1024]⟩
abbrev S64 : Shape := ⟨1, ![64]⟩
abbrev S64x256 : Shape := ⟨2, ![64, 256]⟩
abbrev S256x2048 : Shape := ⟨2, ![256, 2048]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_arg16 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg16
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg12 : FVec F S256 .f32) (main_arg13 : FVec F S256 .f32) (main_arg14 : FVec F S256x512 .f32) (main_arg15 : FVec F S256 .f32) (main_arg16 : FVec F S256 .f32) (main_v33 : IVec S_ 1) : IVec S_ 1 :=
  let main_v34 : FVec F S256 .f32 := Host.absf main_arg12
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg13
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg14
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg15
  let main_cst_18 : FVec F S_ .f32 := constant S_ .f32 0x7F800000#32
  let main_v50 : FVec F S256 .f32 := broadcastInDim S256 ![] bcast_S_S256 main_cst_18
  fn_part3 (F := F) main_arg16 main_v48 main_v49 main_v50

def fn_part1 {F : FTy → Type} [FloatOps F] (main_arg8 : FVec F S1x256 .f32) (main_arg10 : FVec F S256x512 .f32) (main_arg11 : FVec F S256 .f32) (main_arg12 : FVec F S256 .f32) (main_arg13 : FVec F S256 .f32) (main_arg14 : FVec F S256x512 .f32) (main_arg15 : FVec F S256 .f32) (main_arg16 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg8
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x512 .f32 := Host.absf main_arg10
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg12 main_arg13 main_arg14 main_arg15 main_arg16 main_v33

def fn {F : FTy → Type} [FloatOps F] (main_arg0 : FVec F S8192x2048 .f32) (main_arg1 : FVec F S1024x2048 .f32) (main_arg2 : FVec F S1024 .f32) (main_arg3 : FVec F S64x1024 .f32) (main_arg4 : FVec F S64 .f32) (main_arg5 : FVec F S64x256 .f32) (main_arg6 : FVec F S256x2048 .f32) (main_arg7 : FVec F S256 .f32) (main_arg8 : FVec F S1x256 .f32) (main_arg9 : FVec F S1 .f32) (main_arg10 : FVec F S256x512 .f32) (main_arg11 : FVec F S256 .f32) (main_arg12 : FVec F S256 .f32) (main_arg13 : FVec F S256 .f32) (main_arg14 : FVec F S256x512 .f32) (main_arg15 : FVec F S256 .f32) (main_arg16 : FVec F S256 .f32) (main_arg17 : FVec F S256 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x256 .f32 := Host.absf main_arg5
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x2048 .f32 := Host.absf main_arg6
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg10 main_arg11 main_arg12 main_arg13 main_arg14 main_arg15 main_arg16 main_v13 main_v16
-- ==== Kernel.lean ====
abbrev S8192x2048 : Shape := ⟨2, ![8192, 2048]⟩
abbrev S1024x2048 : Shape := ⟨2, ![1024, 2048]⟩
abbrev S1024 : Shape := ⟨1, ![1024]⟩
abbrev S64x1024 : Shape := ⟨2, ![64, 1024]⟩
abbrev S64 : Shape := ⟨1, ![64]⟩
abbrev S64x256 : Shape := ⟨2, ![64, 256]⟩
abbrev S256x2048 : Shape := ⟨2, ![256, 2048]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩
abbrev S2048x1024 : Shape := ⟨2, ![2048, 1024]⟩
abbrev S1024x64 : Shape := ⟨2, ![1024, 64]⟩
abbrev S2048x256 : Shape := ⟨2, ![2048, 256]⟩
abbrev S256x256 : Shape := ⟨2, ![256, 256]⟩
abbrev S512 : Shape := ⟨1, ![512]⟩
abbrev S1x1 : Shape := ⟨2, ![1, 1]⟩
abbrev S1x1024 : Shape := ⟨2, ![1, 1024]⟩
abbrev S1x64 : Shape := ⟨2, ![1, 64]⟩
abbrev S1x512 : Shape := ⟨2, ![1, 512]⟩
abbrev S8192x64 : Shape := ⟨2, ![8192, 64]⟩
abbrev S8192x1 : Shape := ⟨2, ![8192, 1]⟩
abbrev S128x2048 : Shape := ⟨2, ![128, 2048]⟩
abbrev S128x64 : Shape := ⟨2, ![128, 64]⟩
abbrev S128x1 : Shape := ⟨2, ![128, 1]⟩
abbrev S128 : Shape := ⟨1, ![128]⟩
abbrev S128x1024 : Shape := ⟨2, ![128, 1024]⟩
abbrev S128x256 : Shape := ⟨2, ![128, 256]⟩
abbrev S128x512 : Shape := ⟨2, ![128, 512]⟩
abbrev S128x1x256 : Shape := ⟨3, ![128, 1, 256]⟩
abbrev S1x64x256 : Shape := ⟨3, ![1, 64, 256]⟩
abbrev S128x64x256 : Shape := ⟨3, ![128, 64, 256]⟩
abbrev S128x64x128 : Shape := ⟨3, ![128, 64, 128]⟩
abbrev S128x64x1 : Shape := ⟨3, ![128, 64, 1]⟩
abbrev S1x1x256 : Shape := ⟨3, ![1, 1, 256]⟩
abbrev S8192x256 : Shape := ⟨2, ![8192, 256]⟩

abbrev nBuf : Space → Nat
  | .hbm => 70
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S64x256, .f32⟩
  | .hbm, ⟨6, _⟩ => ⟨S256x2048, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S256x512, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1024x64, .f32⟩
  | .hbm, ⟨24, _⟩ => ⟨S2048x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x512, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S1x64, .f32⟩
  | .hbm, ⟨61, _⟩ => ⟨S1x256, .f32⟩
  | .hbm, ⟨62, _⟩ => ⟨S1x512, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x1, .f32⟩
  | .hbm, ⟨68, _⟩ => ⟨S8192x64, .f32⟩
  | .hbm, ⟨69, _⟩ => ⟨S8192x1, .f32⟩
  | .local _ .vmem, ⟨0, _⟩ => ⟨S128x2048, .f32⟩
  | .local _ .vmem, ⟨1, _⟩ => ⟨S128x2048, .f32⟩
  | .local _ .vmem, ⟨2, _⟩ => ⟨S2048x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S2048x256, .f32⟩
  | .local _ .vmem, ⟨7, _⟩ => ⟨S1x256, .f32⟩
  | .local _ .vmem, ⟨8, _⟩ => ⟨S64x256, .f32⟩
  | .local _ .vmem, ⟨9, _⟩ => ⟨S256x256, .f32⟩
  | .local _ .vmem, ⟨10, _⟩ => ⟨S256x512, .f32⟩
  | .local _ .vmem, ⟨11, _⟩ => ⟨S1x512, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S1x256, .f32⟩
  | .local _ .vmem, ⟨16, _⟩ => ⟨S1x1, .f32⟩
  | .local _ .vmem, ⟨17, _⟩ => ⟨S1x256, .f32⟩
  | .local _ .vmem, ⟨18, _⟩ => ⟨S1x1, .f32⟩
  | .local _ .vmem, ⟨19, _⟩ => ⟨S128x64, .f32⟩
  | .local _ .vmem, ⟨20, _⟩ => ⟨S128x64, .f32⟩
  | .local _ .vmem, ⟨21, _⟩ => ⟨S128x1, .f32⟩
  | .local _ .vmem, ⟨22, _⟩ => ⟨S128x1, .f32⟩
  | .local _ .vmem, ⟨23, _⟩ => ⟨S128x64, .f32⟩
  | .local _ .vmem, ⟨24, _⟩ => ⟨S128x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "root_half" => some (((Real.sqrt 2)⁻¹ : ℝ) : EReal)
  | _ => none
-- ==== ReferenceIdeal.lean ====
abbrev S8192x2048 : Shape := ⟨2, ![8192, 2048]⟩
abbrev S1024x2048 : Shape := ⟨2, ![1024, 2048]⟩
abbrev S1024 : Shape := ⟨1, ![1024]⟩
abbrev S64x1024 : Shape := ⟨2, ![64, 1024]⟩
abbrev S64 : Shape := ⟨1, ![64]⟩
abbrev S64x256 : Shape := ⟨2, ![64, 256]⟩
abbrev S256x2048 : Shape := ⟨2, ![256, 2048]⟩
abbrev S256 : Shape := ⟨1, ![256]⟩
abbrev S1x256 : Shape := ⟨2, ![1, 256]⟩
abbrev S1 : Shape := ⟨1, ![1]⟩
abbrev S256x512 : Shape := ⟨2, ![256, 512]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S1024x64 : Shape := ⟨2, ![1024, 64]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S2048x256 : Shape := ⟨2, ![2048, 256]⟩
abbrev S8192x256 : Shape := ⟨2, ![8192, 256]⟩
abbrev S1x64x256 : Shape := ⟨3, ![1, 64, 256]⟩
abbrev S8192x64x256 : Shape := ⟨3, ![8192, 64, 256]⟩
abbrev S8192x1x256 : Shape := ⟨3, ![8192, 1, 256]⟩
abbrev S8192x64x512 : Shape := ⟨3, ![8192, 64, 512]⟩
abbrev S512x256 : Shape := ⟨2, ![512, 256]⟩
abbrev S1x1x256 : Shape := ⟨3, ![1, 1, 256]⟩
abbrev S8192x64x1 : Shape := ⟨3, ![8192, 64, 1]⟩
abbrev S256x1 : Shape := ⟨2, ![256, 1]⟩
abbrev S1x1x1 : Shape := ⟨3, ![1, 1, 1]⟩

abbrev nBuf : Space → Nat
  | .hbm => 239
  | .vmem => 0
  | .smem => 0
  | _ => 0

abbrev hbmTy0_0 (i : Nat) : BufTy := match i % 128 with
  | 0 => ⟨S8192x2048, .f32⟩
  | 1 => ⟨S1024x2048, .f32⟩
  | 2 => ⟨S1024, .f32⟩
  | 3 => ⟨S64x1024, .f32⟩
  | 4 => ⟨S64, .f32⟩
  | 5 => ⟨S64x256, .f32⟩
  | 6 => ⟨S256x2048, .f32⟩
  | 7 => ⟨S256, .f32⟩
  | 8 => ⟨S1x256, .f32⟩
  | 9 => ⟨S1, .f32⟩
  | 10 => ⟨S256x512, .f32⟩
  | 11 => ⟨S256, .f32⟩
  | 12 => ⟨S256, .f32⟩
  | 13 => ⟨S256, .f32⟩
  | 14 => ⟨S256x512, .f32⟩
  | 15 => ⟨S256, .f32⟩
  | 16 => ⟨S256, .f32⟩
  | 17 => ⟨S256, .f32⟩
  | 18 => ⟨S2048x1024, .f32⟩
  | 19 => ⟨S8192x1024, .f32⟩
  | 20 => ⟨S1x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S_, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S1024x64, .f32⟩
  | 34 => ⟨S8192x64, .f32⟩
  | 35 => ⟨S1x64, .f32⟩
  | 36 => ⟨S8192x64, .f32⟩
  | 37 => ⟨S8192x64, .f32⟩
  | 38 => ⟨S_, .f32⟩
  | 39 => ⟨S8192, .f32⟩
  | 40 => ⟨S_, .f32⟩
  | 41 => ⟨S8192, .f32⟩
  | 42 => ⟨S8192, .f32⟩
  | 43 => ⟨S8192x1, .f32⟩
  | 44 => ⟨S8192x64, .f32⟩
  | 45 => ⟨S8192x64, .f32⟩
  | 46 => ⟨S8192x64, .f32⟩
  | 47 => ⟨S_, .f32⟩
  | 48 => ⟨S8192, .f32⟩
  | 49 => ⟨S8192x1, .f32⟩
  | 50 => ⟨S8192x64, .f32⟩
  | 51 => ⟨S8192x64, .f32⟩
  | 52 => ⟨S_, .f32⟩
  | 53 => ⟨S8192, .f32⟩
  | 54 => ⟨S2048x256, .f32⟩
  | 55 => ⟨S8192x256, .f32⟩
  | 56 => ⟨S1x256, .f32⟩
  | 57 => ⟨S8192x256, .f32⟩
  | 58 => ⟨S8192x256, .f32⟩
  | 59 => ⟨S1x64x256, .f32⟩
  | 60 => ⟨S8192x64x256, .f32⟩
  | 61 => ⟨S8192x1x256, .f32⟩
  | 62 => ⟨S8192x64x256, .f32⟩
  | 63 => ⟨S8192x64x512, .f32⟩
  | 64 => ⟨S512x256, .f32⟩
  | 65 => ⟨S8192x64x256, .f32⟩
  | 66 => ⟨S1x1x256, .f32⟩
  | 67 => ⟨S8192x64x256, .f32⟩
  | 68 => ⟨S8192x64x256, .f32⟩
  | 69 => ⟨S_, .f32⟩
  | 70 => ⟨S8192x64x256, .f32⟩
  | 71 => ⟨S8192x64x256, .f32⟩
  | 72 => ⟨S8192x64x256, .f32⟩
  | 73 => ⟨S_, .f32⟩
  | 74 => ⟨S_, .f32⟩
  | 75 => ⟨S8192x64x256, .f32⟩
  | 76 => ⟨S8192x64x256, .f32⟩
  | 77 => ⟨S8192x64x256, .f32⟩
  | 78 => ⟨S8192x64x256, .f32⟩
  | 79 => ⟨S_, .f32⟩
  | 80 => ⟨S8192x64, .f32⟩
  | 81 => ⟨S8192x64x1, .f32⟩
  | 82 => ⟨S_, .f32⟩
  | 83 => ⟨S8192x64x1, .f32⟩
  | 84 => ⟨S8192x64x1, .f32⟩
  | 85 => ⟨S_, .i32⟩
  | 86 => ⟨S_, .f32⟩
  | 87 => ⟨S8192x64, .f32⟩
  | 88 => ⟨S8192x64x1, .f32⟩
  | 89 => ⟨S_, .f32⟩
  | 90 => ⟨S8192x64x1, .f32⟩
  | 91 => ⟨S8192x64x1, .f32⟩
  | 92 => ⟨S8192x64x256, .f32⟩
  | 93 => ⟨S8192x64x256, .f32⟩
  | 94 => ⟨S8192x64x256, .f32⟩
  | 95 => ⟨S_, .f32⟩
  | 96 => ⟨S_, .f32⟩
  | 97 => ⟨S_, .f32⟩
  | 98 => ⟨S_, .f32⟩
  | 99 => ⟨S8192x64, .f32⟩
  | 100 => ⟨S8192x64x1, .f32⟩
  | 101 => ⟨S8192x64x1, .f32⟩
  | 102 => ⟨S8192x64x1, .f32⟩
  | 103 => ⟨S_, .f32⟩
  | 104 => ⟨S_, .i1⟩
  | 105 => ⟨S_, .f32⟩
  | 106 => ⟨S_, .f32⟩
  | 107 => ⟨S8192x64x1, .f32⟩
  | 108 => ⟨S8192x64x1, .f32⟩
  | 109 => ⟨S8192x64x256, .f32⟩
  | 110 => ⟨S8192x64x256, .f32⟩
  | 111 => ⟨S_, .f32⟩
  | 112 => ⟨S8192x64x1, .f32⟩
  | 113 => ⟨S8192x64x1, .f32⟩
  | 114 => ⟨S8192x64x1, .f32⟩
  | 115 => ⟨S8192x64x256, .f32⟩
  | 116 => ⟨S8192x64x256, .f32⟩
  | 117 => ⟨S1x1x256, .f32⟩
  | 118 => ⟨S8192x64x256, .f32⟩
  | 119 => ⟨S8192x64x256, .f32⟩
  | 120 => ⟨S1x1x256, .f32⟩
  | 121 => ⟨S8192x64x256, .f32⟩
  | 122 => ⟨S8192x64x256, .f32⟩
  | 123 => ⟨S8192x64x256, .f32⟩
  | 124 => ⟨S8192x1x256, .f32⟩
  | 125 => ⟨S8192x64x256, .f32⟩
  | 126 => ⟨S8192x64x512, .f32⟩
  | 127 => ⟨S512x256, .f32⟩
  | _ => ⟨S8192x2048, .f32⟩

abbrev hbmTy0_1 (i : Nat) : BufTy := match i % 128 with
  | 0 => ⟨S8192x64x256, .f32⟩
  | 1 => ⟨S1x1x256, .f32⟩
  | 2 => ⟨S8192x64x256, .f32⟩
  | 3 => ⟨S8192x64x256, .f32⟩
  | 4 => ⟨S_, .f32⟩
  | 5 => ⟨S8192x64x256, .f32⟩
  | 6 => ⟨S8192x64x256, .f32⟩
  | 7 => ⟨S8192x64x256, .f32⟩
  | 8 => ⟨S_, .f32⟩
  | 9 => ⟨S_, .f32⟩
  | 10 => ⟨S8192x64x256, .f32⟩
  | 11 => ⟨S8192x64x256, .f32⟩
  | 12 => ⟨S8192x64x256, .f32⟩
  | 13 => ⟨S8192x64x256, .f32⟩
  | 14 => ⟨S_, .f32⟩
  | 15 => ⟨S8192x64, .f32⟩
  | 16 => ⟨S8192x64x1, .f32⟩
  | 17 => ⟨S_, .f32⟩
  | 18 => ⟨S8192x64x1, .f32⟩
  | 19 => ⟨S8192x64x1, .f32⟩
  | 20 => ⟨S_, .i32⟩
  | 21 => ⟨S_, .f32⟩
  | 22 => ⟨S8192x64, .f32⟩
  | 23 => ⟨S8192x64x1, .f32⟩
  | 24 => ⟨S_, .f32⟩
  | 25 => ⟨S8192x64x1, .f32⟩
  | 26 => ⟨S8192x64x1, .f32⟩
  | 27 => ⟨S8192x64x256, .f32⟩
  | 28 => ⟨S8192x64x256, .f32⟩
  | 29 => ⟨S8192x64x256, .f32⟩
  | 30 => ⟨S_, .f32⟩
  | 31 => ⟨S_, .f32⟩
  | 32 => ⟨S_, .f32⟩
  | 33 => ⟨S_, .f32⟩
  | 34 => ⟨S8192x64, .f32⟩
  | 35 => ⟨S8192x64x1, .f32⟩
  | 36 => ⟨S8192x64x1, .f32⟩
  | 37 => ⟨S8192x64x1, .f32⟩
  | 38 => ⟨S_, .f32⟩
  | 39 => ⟨S_, .i1⟩
  | 40 => ⟨S_, .f32⟩
  | 41 => ⟨S_, .f32⟩
  | 42 => ⟨S8192x64x1, .f32⟩
  | 43 => ⟨S8192x64x1, .f32⟩
  | 44 => ⟨S8192x64x256, .f32⟩
  | 45 => ⟨S8192x64x256, .f32⟩
  | 46 => ⟨S_, .f32⟩
  | 47 => ⟨S8192x64x1, .f32⟩
  | 48 => ⟨S8192x64x1, .f32⟩
  | 49 => ⟨S8192x64x1, .f32⟩
  | 50 => ⟨S8192x64x256, .f32⟩
  | 51 => ⟨S8192x64x256, .f32⟩
  | 52 => ⟨S1x1x256, .f32⟩
  | 53 => ⟨S8192x64x256, .f32⟩
  | 54 => ⟨S8192x64x256, .f32⟩
  | 55 => ⟨S1x1x256, .f32⟩
  | 56 => ⟨S8192x64x256, .f32⟩
  | 57 => ⟨S8192x64x256, .f32⟩
  | 58 => ⟨S8192x64x256, .f32⟩
  | 59 => ⟨S256x1, .f32⟩
  | 60 => ⟨S8192x64x1, .f32⟩
  | 61 => ⟨S1x1x1, .f32⟩
  | 62 => ⟨S8192x64x1, .f32⟩
  | 63 => ⟨S8192x64x1, .f32⟩
  | 64 => ⟨S8192x64, .f32⟩
  | 65 => ⟨S_, .f32⟩
  | 66 => ⟨S8192, .f32⟩
  | 67 => ⟨S_, .f32⟩
  | 68 => ⟨S8192, .f32⟩
  | 69 => ⟨S8192, .f32⟩
  | 70 => ⟨S8192x1, .f32⟩
  | 71 => ⟨S8192x64, .f32⟩
  | 72 => ⟨S8192x64, .f32⟩
  | 73 => ⟨S8192x64, .f32⟩
  | 74 => ⟨S_, .f32⟩
  | 75 => ⟨S8192, .f32⟩
  | 76 => ⟨S8192x1, .f32⟩
  | 77 => ⟨S8192x64, .f32⟩
  | 78 => ⟨S8192x64, .f32⟩
  | 79 => ⟨S_, .f32⟩
  | 80 => ⟨S8192, .f32⟩
  | 81 => ⟨S8192, .f32⟩
  | 82 => ⟨S_, .f32⟩
  | 83 => ⟨S8192, .f32⟩
  | 84 => ⟨S8192, .f32⟩
  | 85 => ⟨S8192, .f32⟩
  | 86 => ⟨S8192, .f32⟩
  | 87 => ⟨S_, .f32⟩
  | 88 => ⟨S8192, .f32⟩
  | 89 => ⟨S8192, .f32⟩
  | 90 => ⟨S_, .f32⟩
  | 91 => ⟨S8192, .f32⟩
  | 92 => ⟨S8192, .f32⟩
  | 93 => ⟨S8192x1, .f32⟩
  | 94 => ⟨S8192x64, .f32⟩
  | 95 => ⟨S8192x64, .f32⟩
  | 96 => ⟨S_, .f32⟩
  | 97 => ⟨S8192x1, .f32⟩
  | 98 => ⟨S8192x1, .f32⟩
  | 99 => ⟨S8192x64, .f32⟩
  | 100 => ⟨S8192x64, .f32⟩
  | 101 => ⟨S8192x64, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x64, .f32⟩
  | 109 => ⟨S8192x64, .f32⟩
  | 110 => ⟨S8192x1, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_c : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_v12 : Ref sig .tc := ⟨.hbm, 102, rfl⟩
abbrev main_call0_cst_3 : Ref sig .tc := ⟨.hbm, 103, rfl⟩
abbrev main_call0_v13 : Ref sig .tc := ⟨.hbm, 104, rfl⟩
abbrev main_call0_cst_4 : Ref sig .tc := ⟨.hbm, 105, rfl⟩
abbrev main_call0_call0_v0 : Ref sig .tc := ⟨.hbm, 106, rfl⟩
abbrev main_call0_call0_v1 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_9 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_10 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_11 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_12 : Ref sig .tc := ⟨.hbm, 142, rfl⟩
abbrev main_v88 : Ref sig .tc := ⟨.hbm, 143, rfl⟩
abbrev main_v89 : Ref sig .tc := ⟨.hbm, 144, rfl⟩
abbrev main_cst_13 : Ref sig .tc := ⟨.hbm, 145, rfl⟩
abbrev main_v90 : Ref sig .tc := ⟨.hbm, 146, rfl⟩
abbrev main_v91 : Ref sig .tc := ⟨.hbm, 147, rfl⟩
abbrev main_c_14 : Ref sig .tc := ⟨.hbm, 148, rfl⟩
abbrev main_call1_cst : Ref sig .tc := ⟨.hbm, 149, rfl⟩
abbrev main_call1_v0 : Ref sig .tc := ⟨.hbm, 150, rfl⟩
abbrev main_call1_v1 : Ref sig .tc := ⟨.hbm, 151, rfl⟩
abbrev main_call1_cst_0 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_cst_1 : Ref sig .tc := ⟨.hbm, 159, rfl⟩
abbrev main_call1_v8 : Ref sig .tc := ⟨.hbm, 160, rfl⟩
abbrev main_call1_cst_2 : Ref sig .tc := ⟨.hbm, 161, rfl⟩
abbrev main_call1_v9 : Ref sig .tc := ⟨.hbm, 162, rfl⟩
abbrev main_call1_v10 : Ref sig .tc := ⟨.hbm, 163, rfl⟩
abbrev main_call1_v11 : Ref sig .tc := ⟨.hbm, 164, rfl⟩
abbrev main_call1_v12 : Ref sig .tc := ⟨.hbm, 165, rfl⟩
abbrev main_call1_cst_3 : Ref sig .tc := ⟨.hbm, 166, rfl⟩
abbrev main_call1_v13 : Ref sig .tc := ⟨.hbm, 167, rfl⟩
abbrev main_call1_cst_4 : Ref sig .tc := ⟨.hbm, 168, rfl⟩
abbrev main_call1_call0_v0 : Ref sig .tc := ⟨.hbm, 169, rfl⟩
abbrev main_call1_call0_v1 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_15 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_cst_16 : Ref sig .tc := ⟨.hbm, 193, rfl⟩
abbrev main_v113 : Ref sig .tc := ⟨.hbm, 194, rfl⟩
abbrev main_cst_17 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_cst_18 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_cst_19 : Ref sig .tc := ⟨.hbm, 207, rfl⟩
abbrev main_v124 : Ref sig .tc := ⟨.hbm, 208, rfl⟩
abbrev main_v125 : Ref sig .tc := ⟨.hbm, 209, rfl⟩
abbrev main_cst_20 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_21 : Ref sig .tc := ⟨.hbm, 215, rfl⟩
abbrev main_v130 : Ref sig .tc := ⟨.hbm, 216, rfl⟩
abbrev main_v131 : Ref sig .tc := ⟨.hbm, 217, rfl⟩
abbrev main_cst_22 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_cst_23 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_24 : Ref sig .tc := ⟨.hbm, 230, rfl⟩
abbrev main_v142 : Ref sig .tc := ⟨.hbm, 231, rfl⟩
abbrev main_v143 : Ref sig .tc := ⟨.hbm, 232, rfl⟩
abbrev main_cst_25 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩

abbrev nD : Nat := 1
abbrev τ : Topo := Topo.v7x

variable {F : FTy → Type} [FloatOps F]
-- ==== Proof.Body.lean ====
/-
  What one grid point of the kernel leaves behind.

  At a grid point the body reads the two scratch buffers, which hold the fast and the slow scores of the token block before,
  turns them into the probabilities and the confidence of that block, and then overwrites the scratch with the scores of the
  present token block. This module names those four results as functions of what the body reads, and proves that the body,
  run at any whole staging buffers, leaves exactly them.
-/
module

public import proofs.«01_k».proof.Proof.Gen.KernelIdeal.Frame
public import proofs.«01_k».proof.Proof.Gen.KernelIdeal.Skeleton
public import Idealize.ShloMosaic.Lib.Pipeline.ValueKit.Basic
public import Idealize.ShloMosaic.Lib.VecWindow

@[expose] public section

set_option maxRecDepth 16384

noncomputable section

namespace Cert.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The fast pathway's scores of a token block: two dense layers. -/
def fastScores (x0 : Vec F S128x2048 .f32) (x1 : Vec F S2048x1024 .f32) (x2 : Vec F S1x1024 .f32) (x3 : Vec F S1024x64 .f32)
    (x4 : Vec F S1x64 .f32) : FVec F S128x64 .f32 :=
  k0_pay1 (k0_pay6 x0 x1 x2 x3 x4)

/-- The token block's query against both graph layers' query weights. -/
def queries (x0 : Vec F S128x2048 .f32) (x5 : Vec F S2048x256 .f32) (x6 : Vec F S1x256 .f32) (x9 : Vec F S256x512 .f32)
    (x10 : Vec F S1x512 .f32) : FVec F S128x256 .f32 :=
  k0_pay10 (k0_pay7 x0 x5 x6) x9 x10

/-- The first graph layer's normalised part, before its offset and the expert embedding are added. -/
def layerOne (x0 : Vec F S128x2048 .f32) (x5 : Vec F S2048x256 .f32) (x6 : Vec F S1x256 .f32) (x7 : Vec F S64x256 .f32)
    (x8 : Vec F S256x256 .f32) (x9 : Vec F S256x512 .f32) (x10 : Vec F S1x512 .f32) (x13 : Vec F S1x256 .f32) :
    FVec F S128x64x256 .f32 :=
  k0_pay11 (k0_pay7 x0 x5 x6) (k0_pay8 x7 x8) x9 x10 x13

/-- The slow pathway's scores, off the query's part `u` of the second layer and the first layer's normalised part `n`. -/
def slowFrom (u : FVec F S128x256 .f32) (n : FVec F S128x64x256 .f32) (x7 : Vec F S64x256 .f32) (x11 : Vec F S1x256 .f32)
    (x12 : Vec F S256x256 .f32) (x14 : Vec F S1x256 .f32) (x15 : Vec F S1x1 .f32) (x16 : Vec F S1x256 .f32)
    (x17 : Vec F S1x1 .f32) : FVec F S128x64 .f32 :=
  k0_pay2 (k0_pay13 x7 n x11 x16) (k0_pay14 x7 u n x11 x12) (k0_pay16 x7 u n x11 x12) (k0_pay17 x7 u n x11 x12) x14 x15 x17

/-- The slow pathway's scores of a token block. -/
def slowScores (x0 : Vec F S128x2048 .f32) (x5 : Vec F S2048x256 .f32) (x6 : Vec F S1x256 .f32) (x7 : Vec F S64x256 .f32)
    (x8 : Vec F S256x256 .f32) (x9 : Vec F S256x512 .f32) (x10 : Vec F S1x512 .f32) (x11 : Vec F S1x256 .f32)
    (x12 : Vec F S256x256 .f32) (x13 : Vec F S1x256 .f32) (x14 : Vec F S1x256 .f32) (x15 : Vec F S1x1 .f32)
    (x16 : Vec F S1x256 .f32) (x17 : Vec F S1x1 .f32) : FVec F S128x64 .f32 :=
  slowFrom (queries x0 x5 x6 x9 x10) (layerOne x0 x5 x6 x7 x8 x9 x10 x13) x7 x11 x12 x14 x15 x16 x17

/-- The offsets of a whole rank-two rectangle vanish. -/
theorem off2 : (![0, 0] : Fin 2 → ℕ) = fun _ => 0 := by
  funext a; match a with | 0 => rfl | 1 => rfl

/-- A load of the whole of a whole buffer that is known to read `X` reads `X`. -/
theorem load_whole {sp : Space} {S : Shape} {e : EltTy} {M : Memref sig .tc sp S e} (h : M.IsWhole) (X : S.Idx → Elt F e)
    {off : Fin S.rank → ℕ} (inb : ∀ a, off a + S.size a ≤ S.size a) (hz : off = fun _ => 0) :
    View.readAt (Elt F) M.view (Rect.unit off S.size inb).toLoadRect (h.unread X) = X := by
  rw [View.readAt_eq_ld, h.read_unread, View.ld_unit_zero hz]

set_option maxHeartbeats 4000000 in
/-- THE BODY. On whole staging buffers, the inputs at `x0 … x17` and the scratch at `s0`, `s1`, it leaves the inputs as they
    were, the results of the scratch it found in the two outputs, and the present block's scores in the scratch. -/
theorem body_run (c : Dev nD) (i : grid0.Coords) (arg1 : Memref sig .tc .vmem S128x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S256x256 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x1 .f32) (harg18 : arg18.IsWhole) (arg19 : Memref sig .tc .vmem S128x64 .f32) (harg19 : arg19.IsWhole) (arg20 : Memref sig .tc .vmem S128x1 .f32) (harg20 : arg20.IsWhole) (arg21 : Memref sig .tc .vmem S128x64 .f32) (harg21 : arg21.IsWhole) (arg22 : Memref sig .tc .vmem S128x64 .f32) (harg22 : arg22.IsWhole)
    (x0 : Vec F S128x2048 .f32) (x1 : Vec F S2048x1024 .f32) (x2 : Vec F S1x1024 .f32) (x3 : Vec F S1024x64 .f32) (x4 : Vec F S1x64 .f32) (x5 : Vec F S2048x256 .f32) (x6 : Vec F S1x256 .f32) (x7 : Vec F S64x256 .f32) (x8 : Vec F S256x256 .f32) (x9 : Vec F S256x512 .f32) (x10 : Vec F S1x512 .f32) (x11 : Vec F S1x256 .f32) (x12 : Vec F S256x256 .f32) (x13 : Vec F S1x256 .f32) (x14 : Vec F S1x256 .f32) (x15 : Vec F S1x1 .f32) (x16 : Vec F S1x256 .f32) (x17 : Vec F S1x1 .f32) (s0 s1 : Vec F S128x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare s0 ∗ owns (c : Thread nD τ) arg22 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (k0_pay5 s0 s1) ∗ owns (c : Thread nD τ) arg20 fullShare (k0_pay4 s0) ∗ owns (c : Thread nD τ) arg21 fullShare (fastScores x0 x1 x2 x3 x4) ∗ owns (c : Thread nD τ) arg22 fullShare (slowScores x0 x5 x6 x7 x8 x9 x10 x11 x12 x13 x14 x15 x16 x17)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hs0, HS0⟩, ⟨%fs1, %hs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg21.eq_unread hs0; obtain rfl := harg22.eq_unread hs1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; swap; · iexact H18
    ipureintro
    rw [View.read_writes_full]; simp only [load_whole harg21 s0 _ off2, load_whole harg22 s1 _ off2]
  isplitl [H19]
  · iexists _; isplitr; swap; · iexact H19
    ipureintro
    rw [View.read_writes_full]
    delta body_run.sl.r
    simp only [load_whole harg21 s0 _ off2]
  isplitl [HS0]
  · iexists _; isplitr; swap; · iexact HS0
    ipureintro
    rw [View.read_writes_full, fastScores]
    delta body_run.sl.r_1
    simp only [load_whole harg1 x0 _ off2, load_whole harg2 x1 _ off2, load_whole harg3 x2 _ off2, load_whole harg4 x3 _ off2, load_whole harg5 x4 _ off2]
  iexists _; isplitr; swap; · iexact HS1
  ipureintro
  rw [View.read_writes_full, slowScores, slowFrom, queries, layerOne]
  delta body_run.sl.r_10
  delta body_run.sl.r_9
  delta body_run.sl.r_8
  delta body_run.sl.r_7
  try delta body_run.sl.r_6
  try delta body_run.sl.r_5
  try delta body_run.sl.r_4
  try delta body_run.sl.r_3
  try delta body_run.sl.r_2
  simp only [load_whole harg1 x0 _ off2, load_whole harg6 x5 _ off2, load_whole harg7 x6 _ off2, load_whole harg8 x7 _ off2, load_whole harg9 x8 _ off2, load_whole harg10 x9 _ off2, load_whole harg11 x10 _ off2, load_whole harg12 x11 _ off2, load_whole harg13 x12 _ off2, load_whole harg14 x13 _ off2, load_whole harg15 x14 _ off2, load_whole harg16 x15 _ off2, load_whole harg17 x16 _ off2, load_whole harg18 x17 _ off2]

end Cert.Router

end
-- ==== Proof.Run.lean ====
/-
  The kernel's launch, with what it leaves in its two result arrays.

  The grid runs one point past the last token block. At every point after the first, the two scratch buffers hold the scores
  of the token block of the point before, so that point's stores into the two results are the probabilities and confidences of
  that block. At the first point the scratch holds whatever the launch found there; what the body then stores is overwritten
  before it is ever written back. Hence the relation the proof keeps of an output: it is named at every point but the first.
-/
module

public import proofs.«01_k».proof.Proof.Body
public import Idealize.ShloMosaic.Lib.Pipeline.DatRel
public import Idealize.ShloMosaic.Lib.Pipeline.ArrRel
public import Idealize.ShloMosaic.Lib.Pipeline.ValueKit.Geometry
public import Idealize.ShloMosaic.Lib.Claim
public import Idealize.ShloMosaic.Lib.Pointwise

@[expose] public section

set_option maxRecDepth 16384

noncomputable section

namespace Cert.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the body runs on -/

/-- The scratch buffer that carries the fast scores. -/
abbrev fastBuf : Memref sig .tc .vmem S128x64 .f32 := Memref.whole cc0_scratch0
/-- The scratch buffer that carries the slow scores. -/
abbrev slowBuf : Memref sig .tc .vmem S128x64 .f32 := Memref.whole cc0_scratch1

/-- Before the first point the two scratch buffers are held at anything, and so is the generator's register. -/
theorem scratch_eq (c : Dev nD) : (Pipeline.ΦA spec0 c : sProp 𝕄)
    = iprop(iprop((∃ d, owns (c : Thread nD τ) fastBuf fullShare d) ∗ (∃ d, owns (c : Thread nD τ) slowBuf fullShare d))
        ∗ (∃ r, prngReg c r)) := by
  unfold Pipeline.ΦA; rw [scopedRest0_eq]; simp only [fastBuf, slowBuf, owns_whole]; try rfl

/-- Window 0's staging buffer at a point. -/
abbrev stageAt0 (t : Fin cfg0.N) : Memref sig .tc .vmem S128x2048 .f32 := win0_0.stage (cfg0.slots t 0)
/-- Window 1's staging buffer at a point. -/
abbrev stageAt1 (t : Fin cfg0.N) : Memref sig .tc .vmem S2048x1024 .f32 := win0_1.stage (cfg0.slots t 1)
/-- Window 2's staging buffer at a point. -/
abbrev stageAt2 (t : Fin cfg0.N) : Memref sig .tc .vmem S1x1024 .f32 := win0_2.stage (cfg0.slots t 2)
/-- Window 3's staging buffer at a point. -/
abbrev stageAt3 (t : Fin cfg0.N) : Memref sig .tc .vmem S1024x64 .f32 := win0_3.stage (cfg0.slots t 3)
/-- Window 4's staging buffer at a point. -/
abbrev stageAt4 (t : Fin cfg0.N) : Memref sig .tc .vmem S1x64 .f32 := win0_4.stage (cfg0.slots t 4)
/-- Window 5's staging buffer at a point. -/
abbrev stageAt5 (t : Fin cfg0.N) : Memref sig .tc .vmem S2048x256 .f32 := win0_5.stage (cfg0.slots t 5)
/-- Window 6's staging buffer at a point. -/
abbrev stageAt6 (t : Fin cfg0.N) : Memref sig .tc .vmem S1x256 .f32 := win0_6.stage (cfg0.slots t 6)
/-- Window 7's staging buffer at a point. -/
abbrev stageAt7 (t : Fin cfg0.N) : Memref sig .tc .vmem S64x256 .f32 := win0_7.stage (cfg0.slots t 7)
/-- Window 8's staging buffer at a point. -/
abbrev stageAt8 (t : Fin cfg0.N) : Memref sig .tc .vmem S256x256 .f32 := win0_8.stage (cfg0.slots t 8)
/-- Window 9's staging buffer at a point. -/
abbrev stageAt9 (t : Fin cfg0.N) : Memref sig .tc .vmem S256x512 .f32 := win0_9.stage (cfg0.slots t 9)
/-- Window 10's staging buffer at a point. -/
abbrev stageAt10 (t : Fin cfg0.N) : Memref sig .tc .vmem S1x512 .f32 := win0_10.stage (cfg0.slots t 10)
/-- Window 11's staging buffer at a point. -/
abbrev stageAt11 (t : Fin cfg0.N) : Memref sig .tc .vmem S1x256 .f32 := win0_11.stage (cfg0.slots t 11)
/-- Window 12's staging buffer at a point. -/
abbrev stageAt12 (t : Fin cfg0.N) : Memref sig .tc .vmem S256x256 .f32 := win0_12.stage (cfg0.slots t 12)
/-- Window 13's staging buffer at a point. -/
abbrev stageAt13 (t : Fin cfg0.N) : Memref sig .tc .vmem S1x256 .f32 := win0_13.stage (cfg0.slots t 13)
/-- Window 14's staging buffer at a point. -/
abbrev stageAt14 (t : Fin cfg0.N) : Memref sig .tc .vmem S1x256 .f32 := win0_14.stage (cfg0.slots t 14)
/-- Window 15's staging buffer at a point. -/
abbrev stageAt15 (t : Fin cfg0.N) : Memref sig .tc .vmem S1x1 .f32 := win0_15.stage (cfg0.slots t 15)
/-- Window 16's staging buffer at a point. -/
abbrev stageAt16 (t : Fin cfg0.N) : Memref sig .tc .vmem S1x256 .f32 := win0_16.stage (cfg0.slots t 16)
/-- Window 17's staging buffer at a point. -/
abbrev stageAt17 (t : Fin cfg0.N) : Memref sig .tc .vmem S1x1 .f32 := win0_17.stage (cfg0.slots t 17)
/-- Window 18's staging buffer at a point. -/
abbrev stageAt18 (t : Fin cfg0.N) : Memref sig .tc .vmem S128x64 .f32 := win0_18.stage (cfg0.slots t 18)
/-- Window 19's staging buffer at a point. -/
abbrev stageAt19 (t : Fin cfg0.N) : Memref sig .tc .vmem S128x1 .f32 := win0_19.stage (cfg0.slots t 19)

/-! ## What is carried, and what is left -/

/-- The fast scores of the token block that point `t` reads. -/
def fastAt (c : Dev nD) (t : Fin cfg0.N) : FVec F S128x64 .f32 :=
  fastScores (iblk m c 0 t) (iblk m c 1 t) (iblk m c 2 t) (iblk m c 3 t) (iblk m c 4 t)

/-- The slow scores of the token block that point `t` reads. -/
def slowAt (c : Dev nD) (t : Fin cfg0.N) : FVec F S128x64 .f32 :=
  slowScores (iblk m c 0 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- What the scratch holds before point `n`: the scores of point `n - 1`, if there is such a point. -/
def carried (c : Dev nD) (n : ℕ) : sProp 𝕄 :=
  iprop(∃ s0 s1, ⌜∀ k : Fin cfg0.N, k.val + 1 = n → s0 = fastAt m c k ∧ s1 = slowAt m c k⌝
    ∗ owns (c : Thread nD τ) fastBuf fullShare s0 ∗ owns (c : Thread nD τ) slowBuf fullShare s1 ∗ (∃ r, prngReg c r))

/-- The proof data: the arrays as the launch finds them, each input's buffer left at its block, the scratch as carried. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ t := carried m c t.val
  q _ := fullShare
  owed _ := 0

/-- The two outputs are described by a relation, not by a value. -/
def outputs : Fin 20 → Bool := fun w => w.val == 18 || w.val == 19

/-- What point `t` leaves in an output: the results of the block of the point before, if there is one. -/
def Left (c : Dev nD) : (w : Fin cfg0.W) → Fin cfg0.N → ((cfg0.win w).block.Idx → Elt F (cfg0.win w).elt) → Prop
  | ⟨18, _⟩, t, X => ∀ k : Fin cfg0.N, k.val + 1 = t.val → X = k0_pay5 (fastAt m c k) (slowAt m c k)
  | ⟨19, _⟩, t, X => ∀ k : Fin cfg0.N, k.val + 1 = t.val → X = k0_pay4 (fastAt m c k)
  | _, _, _ => True

theorem data_A (c : Dev nD) (w : Fin cfg0.W) : (data m c).A w = V m c (Pipeline.arrRef spec0 w) := by
  dsimp only [data]

theorem data_Φ_castSucc (c : Dev nD) (t : Fin cfg0.N) : (data m c).Φ t.castSucc = carried m c t.val := by
  dsimp only [data]; exact Pipeline.Dat.Φ_castSucc (fun n _ => carried m c n) t

theorem data_Φ_succ (c : Dev nD) (t : Fin cfg0.N) : (data m c).Φ t.succ = carried m c (t.val + 1) := by
  dsimp only [data]; rfl

theorem after_0 (c : Dev nD) (t : Fin cfg0.N) : (data m c).after 0 t = iblk m c 0 t := by dsimp only [data]
theorem before_0 (c : Dev nD) (t : Fin cfg0.N) (d) : (data m c).before 0 t d = iblk m c 0 t :=
  before0_0_of m (data m c) (data_A m c 0) (after_0 m c) t d
theorem after_1 (c : Dev nD) (t : Fin cfg0.N) : (data m c).after 1 t = iblk m c 1 t := by dsimp only [data]
theorem before_1 (c : Dev nD) (t : Fin cfg0.N) (d) : (data m c).before 1 t d = iblk m c 1 t :=
  before0_1_of m (data m c) (data_A m c 1) (after_1 m c) t d
theorem after_2 (c : Dev nD) (t : Fin cfg0.N) : (data m c).after 2 t = iblk m c 2 t := by dsimp only [data]
theorem before_2 (c : Dev nD) (t : Fin cfg0.N) (d) : (data m c).before 2 t d = iblk m c 2 t :=
  before0_2_of m (data m c) (data_A m c 2) (after_2 m c) t d
theorem after_3 (c : Dev nD) (t : Fin cfg0.N) : (data m c).after 3 t = iblk m c 3 t := by dsimp only [data]
theorem before_3 (c : Dev nD) (t : Fin cfg0.N) (d) : (data m c).before 3 t d = iblk m c 3 t :=
  before0_3_of m (data m c) (data_A m c 3) (after_3 m c) t d
theorem after_4 (c : Dev nD) (t : Fin cfg0.N) : (data m c).after 4 t = iblk m c 4 t := by dsimp only [data]
theorem before_4 (c : Dev nD) (t : Fin cfg0.N) (d) : (data m c).before 4 t d = iblk m c 4 t :=
  before0_4_of m (data m c) (data_A m c 4) (after_4 m c) t d
theorem after_5 (c : Dev nD) (t : Fin cfg0.N) : (data m c).after 5 t = iblk m c 5 t := by dsimp only [data]
theorem before_5 (c : Dev nD) (t : Fin cfg0.N) (d) : (data m c).before 5 t d = iblk m c 5 t :=
  before0_5_of m (data m c) (data_A m c 5) (after_5 m c) t d
theorem after_6 (c : Dev nD) (t : Fin cfg0.N) : (data m c).after 6 t = iblk m c 6 t := by dsimp only [data]
theorem before_6 (c : Dev nD) (t : Fin cfg0.N) (d) : (data m c).before 6 t d = iblk m c 6 t :=
  before0_6_of m (data m c) (data_A m c 6) (after_6 m c) t d
theorem after_7 (c : Dev nD) (t : Fin cfg0.N) : (data m c).after 7 t = iblk m c 7 t := by dsimp only [data]
theorem before_7 (c : Dev nD) (t : Fin cfg0.N) (d) : (data m c).before 7 t d = iblk m c 7 t :=
  before0_7_of m (data m c) (data_A m c 7) (after_7 m c) t d
theorem after_8 (c : Dev nD) (t : Fin cfg0.N) : (data m c).after 8 t = iblk m c 8 t := by dsimp only [data]
theorem before_8 (c : Dev nD) (t : Fin cfg0.N) (d) : (data m c).before 8 t d = iblk m c 8 t :=
  before0_8_of m (data m c) (data_A m c 8) (after_8 m c) t d
theorem after_9 (c : Dev nD) (t : Fin cfg0.N) : (data m c).after 9 t = iblk m c 9 t := by dsimp only [data]
theorem before_9 (c : Dev nD) (t : Fin cfg0.N) (d) : (data m c).before 9 t d = iblk m c 9 t :=
  before0_9_of m (data m c) (data_A m c 9) (after_9 m c) t d
theorem after_10 (c : Dev nD) (t : Fin cfg0.N) : (data m c).after 10 t = iblk m c 10 t := by dsimp only [data]
theorem before_10 (c : Dev nD) (t : Fin cfg0.N) (d) : (data m c).before 10 t d = iblk m c 10 t :=
  before0_10_of m (data m c) (data_A m c 10) (after_10 m c) t d
theorem after_11 (c : Dev nD) (t : Fin cfg0.N) : (data m c).after 11 t = iblk m c 11 t := by dsimp only [data]
theorem before_11 (c : Dev nD) (t : Fin cfg0.N) (d) : (data m c).before 11 t d = iblk m c 11 t :=
  before0_11_of m (data m c) (data_A m c 11) (after_11 m c) t d
theorem after_12 (c : Dev nD) (t : Fin cfg0.N) : (data m c).after 12 t = iblk m c 12 t := by dsimp only [data]
theorem before_12 (c : Dev nD) (t : Fin cfg0.N) (d) : (data m c).before 12 t d = iblk m c 12 t :=
  before0_12_of m (data m c) (data_A m c 12) (after_12 m c) t d
theorem after_13 (c : Dev nD) (t : Fin cfg0.N) : (data m c).after 13 t = iblk m c 13 t := by dsimp only [data]
theorem before_13 (c : Dev nD) (t : Fin cfg0.N) (d) : (data m c).before 13 t d = iblk m c 13 t :=
  before0_13_of m (data m c) (data_A m c 13) (after_13 m c) t d
theorem after_14 (c : Dev nD) (t : Fin cfg0.N) : (data m c).after 14 t = iblk m c 14 t := by dsimp only [data]
theorem before_14 (c : Dev nD) (t : Fin cfg0.N) (d) : (data m c).before 14 t d = iblk m c 14 t :=
  before0_14_of m (data m c) (data_A m c 14) (after_14 m c) t d
theorem after_15 (c : Dev nD) (t : Fin cfg0.N) : (data m c).after 15 t = iblk m c 15 t := by dsimp only [data]
theorem before_15 (c : Dev nD) (t : Fin cfg0.N) (d) : (data m c).before 15 t d = iblk m c 15 t :=
  before0_15_of m (data m c) (data_A m c 15) (after_15 m c) t d
theorem after_16 (c : Dev nD) (t : Fin cfg0.N) : (data m c).after 16 t = iblk m c 16 t := by dsimp only [data]
theorem before_16 (c : Dev nD) (t : Fin cfg0.N) (d) : (data m c).before 16 t d = iblk m c 16 t :=
  before0_16_of m (data m c) (data_A m c 16) (after_16 m c) t d
theorem after_17 (c : Dev nD) (t : Fin cfg0.N) : (data m c).after 17 t = iblk m c 17 t := by dsimp only [data]
theorem before_17 (c : Dev nD) (t : Fin cfg0.N) (d) : (data m c).before 17 t d = iblk m c 17 t :=
  before0_17_of m (data m c) (data_A m c 17) (after_17 m c) t d

/-! ## The body at a point -/

/-- What the body is called with at point `t`. -/
def callPre (c : Dev nD) (t : Fin cfg0.N) : sProp 𝕄 :=
  iprop((data m c).Φ t.castSucc ∗ (data m c).owesAt () t.castSucc
    ∗ (∃ d, owns (c : Thread nD τ) (stageAt0 t) fullShare ((data m c).before 0 t d))
    ∗ (∃ d, owns (c : Thread nD τ) (stageAt1 t) fullShare ((data m c).before 1 t d))
    ∗ (∃ d, owns (c : Thread nD τ) (stageAt2 t) fullShare ((data m c).before 2 t d))
    ∗ (∃ d, owns (c : Thread nD τ) (stageAt3 t) fullShare ((data m c).before 3 t d))
    ∗ (∃ d, owns (c : Thread nD τ) (stageAt4 t) fullShare ((data m c).before 4 t d))
    ∗ (∃ d, owns (c : Thread nD τ) (stageAt5 t) fullShare ((data m c).before 5 t d))
    ∗ (∃ d, owns (c : Thread nD τ) (stageAt6 t) fullShare ((data m c).before 6 t d))
    ∗ (∃ d, owns (c : Thread nD τ) (stageAt7 t) fullShare ((data m c).before 7 t d))
    ∗ (∃ d, owns (c : Thread nD τ) (stageAt8 t) fullShare ((data m c).before 8 t d))
    ∗ (∃ d, owns (c : Thread nD τ) (stageAt9 t) fullShare ((data m c).before 9 t d))
    ∗ (∃ d, owns (c : Thread nD τ) (stageAt10 t) fullShare ((data m c).before 10 t d))
    ∗ (∃ d, owns (c : Thread nD τ) (stageAt11 t) fullShare ((data m c).before 11 t d))
    ∗ (∃ d, owns (c : Thread nD τ) (stageAt12 t) fullShare ((data m c).before 12 t d))
    ∗ (∃ d, owns (c : Thread nD τ) (stageAt13 t) fullShare ((data m c).before 13 t d))
    ∗ (∃ d, owns (c : Thread nD τ) (stageAt14 t) fullShare ((data m c).before 14 t d))
    ∗ (∃ d, owns (c : Thread nD τ) (stageAt15 t) fullShare ((data m c).before 15 t d))
    ∗ (∃ d, owns (c : Thread nD τ) (stageAt16 t) fullShare ((data m c).before 16 t d))
    ∗ (∃ d, owns (c : Thread nD τ) (stageAt17 t) fullShare ((data m c).before 17 t d))
    ∗ (∃ Y, ⌜((data m c).toRRel outputs (Left m c)).Finds 18 t Y⌝ ∗ owns (c : Thread nD τ) (stageAt18 t) fullShare Y)
    ∗ (∃ Y, ⌜((data m c).toRRel outputs (Left m c)).Finds 19 t Y⌝ ∗ owns (c : Thread nD τ) (stageAt19 t) fullShare Y))

/-- What it gives back. -/
def callPost (c : Dev nD) (t : Fin cfg0.N) : sProp 𝕄 :=
  iprop((data m c).Φ t.succ ∗ (data m c).owesAt () t.succ
    ∗ owns (c : Thread nD τ) (stageAt0 t) fullShare ((data m c).after 0 t)
    ∗ owns (c : Thread nD τ) (stageAt1 t) fullShare ((data m c).after 1 t)
    ∗ owns (c : Thread nD τ) (stageAt2 t) fullShare ((data m c).after 2 t)
    ∗ owns (c : Thread nD τ) (stageAt3 t) fullShare ((data m c).after 3 t)
    ∗ owns (c : Thread nD τ) (stageAt4 t) fullShare ((data m c).after 4 t)
    ∗ owns (c : Thread nD τ) (stageAt5 t) fullShare ((data m c).after 5 t)
    ∗ owns (c : Thread nD τ) (stageAt6 t) fullShare ((data m c).after 6 t)
    ∗ owns (c : Thread nD τ) (stageAt7 t) fullShare ((data m c).after 7 t)
    ∗ owns (c : Thread nD τ) (stageAt8 t) fullShare ((data m c).after 8 t)
    ∗ owns (c : Thread nD τ) (stageAt9 t) fullShare ((data m c).after 9 t)
    ∗ owns (c : Thread nD τ) (stageAt10 t) fullShare ((data m c).after 10 t)
    ∗ owns (c : Thread nD τ) (stageAt11 t) fullShare ((data m c).after 11 t)
    ∗ owns (c : Thread nD τ) (stageAt12 t) fullShare ((data m c).after 12 t)
    ∗ owns (c : Thread nD τ) (stageAt13 t) fullShare ((data m c).after 13 t)
    ∗ owns (c : Thread nD τ) (stageAt14 t) fullShare ((data m c).after 14 t)
    ∗ owns (c : Thread nD τ) (stageAt15 t) fullShare ((data m c).after 15 t)
    ∗ owns (c : Thread nD τ) (stageAt16 t) fullShare ((data m c).after 16 t)
    ∗ owns (c : Thread nD τ) (stageAt17 t) fullShare ((data m c).after 17 t)
    ∗ (∃ X, ⌜Left m c 18 t X⌝ ∗ owns (c : Thread nD τ) (stageAt18 t) fullShare X)
    ∗ (∃ X, ⌜Left m c 19 t X⌝ ∗ owns (c : Thread nD τ) (stageAt19 t) fullShare X))

set_option maxHeartbeats 2000000 in
/-- THE BODY AT A POINT: its inputs are their blocks and the scratch is what is carried, so `body_run` applies. -/
theorem body_at (c : Dev nD) (t : Fin cfg0.N) :
    callPre m c t ⊢ wp frame (wpE (defs₀ (F := F)) Variants.none c none) Set.univ (bodyAt0 t) (fun _ => callPost m c t) := by
  unfold callPre callPost bodyAt0
  simp only [before_0, before_1, before_2, before_3, before_4, before_5, before_6, before_7, before_8, before_9, before_10, before_11, before_12, before_13, before_14, before_15, before_16, before_17]
  rw [show (data m c).owesAt () t.succ = (data m c).owesAt () t.castSucc from rfl, data_Φ_castSucc, data_Φ_succ,
    after_0, after_1, after_2, after_3, after_4, after_5, after_6, after_7, after_8, after_9, after_10, after_11, after_12, after_13, after_14, after_15, after_16, after_17]
  unfold carried
  iintro ⟨⟨%s0, %s1, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, %h18, H18⟩, ⟨%d19, %h19, H19⟩⟩
  iapply (body_run c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · iexists (fastAt m c t); iexists (slowAt m c t)
    isplitr
    · ipureintro; intro k hk
      obtain rfl : k = t := Fin.ext (by omega)
      exact ⟨rfl, rfl⟩
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro
    intro k hk; obtain ⟨rfl, rfl⟩ := hs k hk; rfl
  iexists _; isplitr; swap; · iexact H19
  ipureintro
  intro k hk; obtain ⟨rfl, -⟩ := hs k hk; rfl

/-- The body table's row at point `t` is the body at that point's staging buffers. -/
theorem row_at (t : Fin cfg0.N) : defs₀ (F := F) .tc cfg0.body (cfg0.bodyArgs t (cfg0.slots t)) = bodyAt0 t := by
  unfold defs₀; rw [Defs.onTc_tc]

/-- The obligation of the body, at every point. -/
theorem obligation (c : Dev nD) :
    BodyObligationRel (data (F := F) m c) (defs₀ (F := F)) Variants.none () Set.univ outputs (Left m c) := fun t => by
  rw [bigSep_W0, bigSep_W0, row_at]
  exact triple_restated (body_at m c t) rfl .rfl fun _ => .rfl

/-! ## The run -/

/-- The scratch the launch finds is what is carried before the first point. -/
theorem carried_first (c : Dev nD) : (Pipeline.ΦA spec0 c : sProp 𝕄) ⊢ (data m c).Φ 0 := by
  rw [show (data m c).Φ 0 = carried m c 0 from rfl, scratch_eq]
  unfold carried
  iintro ⟨⟨⟨%s0, HS0⟩, ⟨%s1, HS1⟩⟩, Hg⟩
  iexists s0; iexists s1
  isplitr
  · ipureintro; intro k hk; omega
  isplitl [HS0]; · iexact HS0
  isplitl [HS1]; · iexact HS1
  iexact Hg

/-- What is carried after the last point is given back. -/
theorem carried_last (c : Dev nD) : (data m c).Φ (Fin.last cfg0.N) ⊢ (Pipeline.ΦA spec0 c : sProp 𝕄) := by
  rw [show (data m c).Φ (Fin.last cfg0.N) = carried m c (Fin.last cfg0.N).val from rfl, scratch_eq]
  unfold carried
  iintro ⟨%s0, %s1, -, HS0, HS1, Hg⟩
  isplitl [HS0 HS1]
  · isplitl [HS0]
    · iexists _; iexact HS0
    iexists _; iexact HS1
  iexact Hg

set_option backward.isDefEq.respectTransparency.types false in
/-- THE LAUNCH: every run ends with the arrays as the relation says, and every semaphore at zero. -/
theorem launch_run : θ_run defs (onTc (τ := τ) (main (F := F))) (s₀ m ρ) (fun r =>
    (Pipeline.RDat.FramePost (cfgs 0) (fun c => (data m c).toRRel outputs (Left m c)) (V m)) r ∧ r.2.sem = fun _ => 0) :=
  Pipeline.RDat.θ_run_frame_track (Q' := _) cfgs (0 : Fin 1) launch0 defs₀ Variants.none
    (fun c => (data m c).toRRel outputs (Left m c)) m ρ main
    (hbody := fun c => (obligation m c).toRRel) (hshare := fun c => (data m c).share_full fun _ => rfl)
    (howed := fun _ _ => rfl) (V := V m) (hmain := hmain m Variants.none) (hA := data_A m)
    (hin := carried_first m) (hout := carried_last m)

/-! ## What the run leaves in memory -/

/-- The token block whose scores row `r` of a result comes from: that many points into the grid. -/
def blockOf (r : Fin 8192) : Fin cfg0.N := ⟨r.val / 128, by have := r.isLt; show _ < grid0.N; rw [N_0]; omega⟩

/-- The probabilities, row by row. -/
def probsOf (c : Dev nD) : FVec F S8192x64 .f32 := fun j =>
  k0_pay5 (fastAt m c (blockOf (j 0))) (slowAt m c (blockOf (j 0))) (ix2 ⟨(j 0).val % 128, Nat.mod_lt _ (by decide)⟩ (j 1))

/-- The confidences, row by row. -/
def confOf (c : Dev nD) : FVec F S8192x1 .f32 := fun j =>
  k0_pay4 (fastAt m c (blockOf (j 0))) (ix2 ⟨(j 0).val % 128, Nat.mod_lt _ (by decide)⟩ (j 1))

end Cert.Router

end
-- ==== Proof.Results.lean ====
/-
  What the kernel's run leaves in memory: the two results row by row, and its arguments as they were.
-/
module

public import proofs.«01_k».proof.Proof.Run

@[expose] public section

set_option maxRecDepth 16384

noncomputable section

namespace Cert.Router

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg)

/-- The probabilities are written back at every point but the first. -/
theorem flush18 : ∀ t : Fin cfg0.N, (cfg0.win 18).flush t = true → 1 ≤ t.val :=
  (by decide +kernel : ∀ t : Fin grid0.N, win0_18.flush t = true → 1 ≤ t.val)
/-- The confidences are written back at every point but the first. -/
theorem flush19 : ∀ t : Fin cfg0.N, (cfg0.win 19).flush t = true → 1 ≤ t.val :=
  (by decide +kernel : ∀ t : Fin grid0.N, win0_19.flush t = true → 1 ≤ t.val)
/-- The probabilities' block at a point is the block of the point before. -/
theorem index18 : ∀ t : Fin cfg0.N, win0_18.index t = ![t.val - 1, 0] :=
  (by decide +kernel : ∀ t : Fin grid0.N, win0_18.index t = ![t.val - 1, 0])
/-- The confidences' block at a point is the block of the point before. -/
theorem index19 : ∀ t : Fin cfg0.N, win0_19.index t = ![t.val - 1, 0] :=
  (by decide +kernel : ∀ t : Fin grid0.N, win0_19.index t = ![t.val - 1, 0])

/-- The point before one that is not the first. -/
def prev (t : Fin cfg0.N) : Fin cfg0.N := ⟨t.val - 1, by have := t.isLt; omega⟩

variable (c : Dev nD) (after : (w' : Fin cfg0.W) → Fin cfg0.N → (cfg0.win w').block.Idx → Elt F (cfg0.win w').elt)
  (hL : ∀ (w : Fin cfg0.W) (u : Fin cfg0.N), (cfg0.win w).flush u = true
    → ((data m c).toRRel outputs (Left m c)).Leaves w u (after w u))

include hL in
theorem after18 (t : Fin cfg0.N) (hf : (cfg0.win 18).flush t = true) :
    after 18 t = k0_pay5 (fastAt m c (prev t)) (slowAt m c (prev t)) :=
  Dat.toRRel_leaves (data m c) rfl (hL 18 t hf) (prev t) (by have := flush18 t hf; simp only [prev]; omega)

include hL in
theorem after19 (t : Fin cfg0.N) (hf : (cfg0.win 19).flush t = true) :
    after 19 t = k0_pay4 (fastAt m c (prev t)) :=
  Dat.toRRel_leaves (data m c) rfl (hL 19 t hf) (prev t) (by have := flush19 t hf; simp only [prev]; omega)

/-- The row of a result that row `y` of the block written back at point `t` becomes. -/
def rowOf (t : Fin cfg0.N) (y : Fin 128) : Fin 8192 :=
  ⟨(t.val - 1) * 128 + y.val, by have := t.isLt.trans_eq (show cfg0.N = 65 from N_0); have := y.isLt; omega⟩

theorem blockOf_rowOf (t : Fin cfg0.N) (y : Fin 128) : blockOf (rowOf t y) = prev t :=
  Fin.ext (by have := y.isLt; simp only [blockOf, rowOf, prev]; omega)

theorem rowOf_mod (t : Fin cfg0.N) (y : Fin 128) : (⟨(rowOf t y).val % 128, Nat.mod_lt _ (by decide)⟩ : Fin 128) = y :=
  Fin.ext (by have := y.isLt; simp only [rowOf]; omega)

theorem probsOf_at (t : Fin cfg0.N) (a : Fin 128) (b : Fin 64) :
    probsOf m c (ix2 (rowOf t a) b) = k0_pay5 (fastAt m c (prev t)) (slowAt m c (prev t)) (ix2 a b) := by
  show k0_pay5 (fastAt m c (blockOf (rowOf t a))) (slowAt m c (blockOf (rowOf t a)))
    (ix2 ⟨(rowOf t a).val % 128, Nat.mod_lt _ (by decide)⟩ b) = _
  rw [blockOf_rowOf, rowOf_mod]

theorem confOf_at (t : Fin cfg0.N) (a : Fin 128) (b : Fin 1) :
    confOf m c (ix2 (rowOf t a) b) = k0_pay4 (fastAt m c (prev t)) (ix2 a b) := by
  show k0_pay4 (fastAt m c (blockOf (rowOf t a))) (ix2 ⟨(rowOf t a).val % 128, Nat.mod_lt _ (by decide)⟩ b) = _
  rw [blockOf_rowOf, rowOf_mod]

include hL in
theorem probs_arr : (((data m c).toRRel outputs (Left m c)).withAfter after).arrAt 18 cfg0.N = probsOf m c := by
  refine Dat.arrAt_eq_of_covers _ 18 _ (by decide +kernel) fun t hf y => ?_
  rw [Pipeline.RDat.withAfter_after, after18 m c after hL t hf]
  have h1 := flush18 t hf
  have e := index18
  blk_simp
  idx_bounds y
  have hy : (win0_18.blk t).view.emb y = ix2 (rowOf t (y 0)) (y 1) := by
    blk_ext [e, rowOf]
  rw [hy]
  exact (congrArg _ (eq_ix2 y)).trans (probsOf_at m c t (y 0) (y 1)).symm

include hL in
theorem conf_arr : (((data m c).toRRel outputs (Left m c)).withAfter after).arrAt 19 cfg0.N = confOf m c := by
  refine Dat.arrAt_eq_of_covers _ 19 _ (by decide +kernel) fun t hf y => ?_
  rw [Pipeline.RDat.withAfter_after, after19 m c after hL t hf]
  have h1 := flush19 t hf
  have e := index19
  blk_simp
  idx_bounds y
  have hy : (win0_19.blk t).view.emb y = ix2 (rowOf t (y 0)) (y 1) := by
    blk_ext [e, rowOf]
  rw [hy]
  exact (congrArg _ (eq_ix2 y)).trans (confOf_at m c t (y 0) (y 1)).symm

set_option maxHeartbeats 1200000 in
/-- THE RUN: the two results are the probabilities and the confidences, the arguments are unchanged, and every
    semaphore counter is back at zero. -/
theorem run_results : θ_run defs (onTc (τ := τ) (main (F := F))) ⟨m, fun _ => 0, ρ⟩ (fun r => (∀ c : Dev nD,
    r.2.mem ((c : Thread nD τ).loc main_v46_0) = probsOf m c
    ∧ r.2.mem ((c : Thread nD τ).loc main_v46_1) = confOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17))
    ∧ r.2.sem = fun _ => 0) :=
  (θ_run defs _ _).mono (fun _ h => ⟨fun c => by
    obtain ⟨after, hL, hA⟩ := h.1.exists_exact c
    refine ⟨(hA 18).trans (probs_arr m c after hL), (hA 19).trans (conf_arr m c after hL),
      (hA 0).trans ((Dat.arrAt_in _ 0 rfl _).trans ((data_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (hA 7).trans ((Dat.arrAt_in _ 7 rfl _).trans ((data_A m c 7).trans (V_main_arg5 m c))),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩)
    (launch_run m ρ)

/-- The run's arguments are unchanged, and every semaphore counter is back at zero. -/
theorem run_quiet : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17))
    ∧ r.2.sem = fun _ => 0) :=
  (θ_run defs _ _).mono (fun _ h => ⟨fun c => (h.1 c).2.2, h.2⟩) (run_results m ρ)

end Cert.Router

end
-- ==== Proof.Spec.lean ====
/-
  The router, written once for both programs: plain formulas over the extended reals for a token's fast scores, its slow
  scores as the reference spells them (`refScore`) and as the kernel spells them (`kerScore`), and what is made of the two.

  The two spellings of the slow scores agree (`score_agree`) when every number the layer norms read is finite, and the output weight: the kernel keeps
  its activations scaled by the root of one half until the erf, measures a row by its sum and its sum of squares, and
  moves the factors of the layer norm and of the output weight past the sums.
-/
module

public import Idealize.ShloMosaic.PureOps.Ideal.Laws
public import Idealize.ShloMosaic.Lib.Pointwise

@[expose] public section

noncomputable section

namespace Cert.Router

open Idealize.ShloMosaic

/-! ## Scores to probabilities -/

/-- The largest of 64 scores. -/
def top (f : Fin 64 → EReal) : EReal := Finset.univ.fold max (Ideal.ofBits .f32 0xFF800000#32) f
/-- The softmax of 64 scores. -/
def soft (f : Fin 64 → EReal) (e : Fin 64) : EReal :=
  Ideal.div (Ideal.exp (f e - top f)) (∑ x, Ideal.exp (f x - top f))
/-- The confidence: the largest probability. -/
def sure (f : Fin 64 → EReal) : EReal := top (soft f)
/-- The weight of the fast pathway at a confidence. -/
def weight (c : EReal) : EReal :=
  Ideal.div 1 (1 + Ideal.exp (-((c - Ideal.ofBits .f32 0x3F400000#32) * Ideal.ofBits .f32 0x41200000#32)))
/-- The two pathways' probabilities, blended. -/
def blend (f g : Fin 64 → EReal) (e : Fin 64) : EReal :=
  weight (sure f) * soft f e + (1 - weight (sure f)) * soft g e
/-- The router's probabilities, of the fast scores `f` and the slow scores `g`. -/
def routed (f g : Fin 64 → EReal) (e : Fin 64) : EReal :=
  Ideal.div (blend f g e) (∑ x, blend f g x + Ideal.ofBits .f32 0x322BCC77#32)

theorem max_start (f : Fin 64 → EReal) : max (Ideal.ofBits .f32 0xFF800000#32) (top f) = top f := by
  have h : Ideal.ofBits .f32 0xFF800000#32 = ⊥ := by simp [Ideal.ofBits, Ideal.ieee]
  rw [h]; exact max_eq_right bot_le

/-- A softmax whose largest score is taken once more against the start of the search is the softmax. -/
theorem soft_start (f : Fin 64 → EReal) (e : Fin 64) :
    Ideal.div (Ideal.exp (f e - max (Ideal.ofBits .f32 0xFF800000#32) (top f)))
      (∑ x, Ideal.exp (f x - max (Ideal.ofBits .f32 0xFF800000#32) (top f))) = soft f e := by
  rw [max_start]; rfl

/-! ## Literals -/

theorem half_lit : Ideal.ofBits .f32 0x3F000000#32 = ((1 / 2 : ℝ) : EReal) := by
  simp [Ideal.ofBits, Ideal.ieee, -EReal.coe_mul]; norm_num
theorem sixteen_lit : Ideal.ofBits .f32 0x41800000#32 = ((16 : ℝ) : EReal) := by
  simp [Ideal.ofBits, Ideal.ieee, -EReal.coe_mul]; norm_num
theorem width_lit : Ideal.ofBits .f32 0x43800000#32 = ((256 : ℝ) : EReal) := by
  simp [Ideal.ofBits, Ideal.ieee, -EReal.coe_mul]; norm_num
theorem inv_width_lit : Ideal.ofBits .f32 0x3B800000#32 = ((1 / 256 : ℝ) : EReal) := by
  simp [Ideal.ofBits, Ideal.ieee, -EReal.coe_mul]; norm_num
/-- The number that both programs keep the variance off zero with. -/
def tiny : ℝ := 10995116 / 2 ^ 40
theorem tiny_lit : Ideal.ofBits .f32 0x3727C5AC#32 = (tiny : EReal) := by
  simp [Ideal.ofBits, Ideal.ieee, -EReal.coe_mul, tiny]; norm_num
theorem big_tiny_lit : Ideal.ofBits .f32 0x3B27C5AC#32 = ((256 * tiny : ℝ) : EReal) := by
  simp [Ideal.ofBits, Ideal.ieee, -EReal.coe_mul, tiny]; norm_num
theorem tiny_pos : 0 < tiny := by unfold tiny; norm_num

/-- The root of one half. -/
abbrev root : EReal := (((Real.sqrt 2)⁻¹ : ℝ) : EReal)

theorem root_lit : Ideal.sqrt (Ideal.ofBits .f32 0x3F000000#32) = root := by
  rw [half_lit, Ideal.sqrt_coe, if_neg (by norm_num), one_div, Real.sqrt_inv]

theorem root_sq : (Real.sqrt 2)⁻¹ * (Real.sqrt 2)⁻¹ = (1 / 2 : ℝ) := by
  rw [← mul_inv, Real.mul_self_sqrt (by norm_num), one_div]

theorem root_pos : 0 < (Real.sqrt 2)⁻¹ := inv_pos.2 (Real.sqrt_pos.2 (by norm_num))

/-! ## The activation -/

/-- The activation as the reference spells it. -/
def gelu (u : EReal) : EReal :=
  Ideal.ofBits .f32 0x3F000000#32 * u * Ideal.erfc (-u * Ideal.sqrt (Ideal.ofBits .f32 0x3F000000#32))
/-- The activation as the kernel spells it, of an argument that is already scaled by the root of one half. -/
def bent (t : EReal) : EReal := root * t * (1 + Ideal.erf t)

theorem bent_root (u : EReal) : bent (u * root) = gelu u := by
  unfold bent gelu
  rw [root_lit, half_lit, EReal.neg_mul, Ideal.erfc_neg, mul_comm u, ← mul_assoc, ← EReal.coe_mul, root_sq]

/-- A scaled sum is the sum of the scaled terms: the scale is positive and finite. -/
theorem sum_root {n : ℕ} (f : Fin n → EReal) : ∑ k, f k * root = (∑ k, f k) * root := by
  have h0 : (0 : EReal) ≤ root := EReal.coe_nonneg.2 root_pos.le
  have hadd : ∀ a b : EReal, (a + b) * root = a * root + b * root := fun a b =>
    EReal.right_distrib_of_nonneg_of_ne_top h0 (EReal.coe_ne_top _) a b
  exact (map_sum (⟨⟨fun x : EReal => x * root, zero_mul _⟩, hadd⟩ : EReal →+ EReal) f Finset.univ).symm

theorem add_root (a b : EReal) : a * root + b * root = (a + b) * root :=
  (EReal.right_distrib_of_nonneg_of_ne_top (EReal.coe_nonneg.2 root_pos.le) (EReal.coe_ne_top _) a b).symm

/-- A product with scaled weights, plus a scaled offset, is the scaled result. -/
theorem dot_root {n : ℕ} (f w : Fin n → EReal) (b : EReal) :
    ∑ k, f k * (w k * root) + b * root = (∑ k, f k * w k + b) * root := by
  simp only [← mul_assoc]; rw [sum_root, add_root]

/-! ## Real values -/

theorem coe_total {ι : Type} (s : Finset ι) (f : ι → ℝ) : ∑ k ∈ s, (f k : EReal) = ((∑ k ∈ s, f k : ℝ) : EReal) :=
  (map_sum (⟨⟨fun x : ℝ => (x : EReal), rfl⟩, EReal.coe_add⟩ : ℝ →+ EReal) f s).symm

/-- The activation of a real number. -/
def rgelu (u : ℝ) : ℝ := ((gelu (u : EReal))).toReal

theorem gelu_coe (u : ℝ) : gelu (u : EReal) = (rgelu u : EReal) := by
  have h : ∃ y : ℝ, gelu (u : EReal) = y := by
    unfold gelu
    rw [root_lit, half_lit, ← EReal.coe_neg, ← EReal.coe_mul, ← EReal.coe_mul, Ideal.erfc, Ideal.erf_coe, ← EReal.coe_one,
      ← EReal.coe_sub, ← EReal.coe_mul]
    exact ⟨_, rfl⟩
  obtain ⟨y, hy⟩ := h
  rw [rgelu, hy, EReal.toReal_coe]

/-- The variance of a row. -/
def rvar (a : Fin 256 → ℝ) : ℝ := (∑ k, (a k - (∑ x, a x) / 256) * (a k - (∑ x, a x) / 256)) / 256
/-- An element of a row, centred and scaled to unit variance. -/
def rnorm (a : Fin 256 → ℝ) (d : Fin 256) : ℝ := (a d - (∑ x, a x) / 256) / Real.sqrt (rvar a + tiny)

theorem rvar_nonneg (a : Fin 256 → ℝ) : 0 ≤ rvar a :=
  div_nonneg (Finset.sum_nonneg fun k _ => mul_self_nonneg _) (by norm_num)

/-! ## Layer norms -/

/-- The reference's layer norm of a row, before its gain and its offset. -/
def refNorm (a : Fin 256 → EReal) (d : Fin 256) : EReal :=
  Ideal.div (a d - Ideal.div (∑ x, a x) (Ideal.ofBits .f32 0x43800000#32))
    (Ideal.sqrt (Ideal.div (∑ k, (a k - Ideal.div (∑ x, a x) (Ideal.ofBits .f32 0x43800000#32))
        * (a k - Ideal.div (∑ x, a x) (Ideal.ofBits .f32 0x43800000#32))) (Ideal.ofBits .f32 0x43800000#32)
      + Ideal.ofBits .f32 0x3727C5AC#32))

/-- A row of 256 summed as the kernel sums it: the halves are added first. -/
def fold (a : Fin 256 → EReal) : EReal :=
  ∑ x : Fin 128, (a ⟨x.val, by omega⟩ + a ⟨128 + x.val, by omega⟩)
/-- What the kernel takes the inverse root of: 256 times the variance of a row. -/
def spread (a : Fin 256 → EReal) : EReal :=
  fold (fun d => a d * a d) - fold a * (fold a * Ideal.ofBits .f32 0x3B800000#32) + Ideal.ofBits .f32 0x3B27C5AC#32
/-- The kernel's layer norm of a row, with its gain, before its offset. -/
def kerNorm (a g : Fin 256 → EReal) (d : Fin 256) : EReal :=
  (a d - fold a * Ideal.ofBits .f32 0x3B800000#32) * (Ideal.rsqrt (spread a) * g d)

theorem fold_eq (a : Fin 256 → EReal) : fold a = ∑ x, a x := by
  unfold fold; rw [Finset.sum_add_distrib, Fin.sum_univ_two_halves 128 128 rfl a]

theorem refNorm_coe (a : Fin 256 → ℝ) (d : Fin 256) : refNorm (fun x => (a x : EReal)) d = (rnorm a d : EReal) := by
  have hp : 0 < rvar a + tiny := add_pos_of_nonneg_of_pos (rvar_nonneg a) tiny_pos
  have h256 : (256 : ℝ) ≠ 0 := by norm_num
  unfold refNorm
  rw [width_lit, tiny_lit, coe_total, Ideal.div_coe h256, ← EReal.coe_mul]
  simp only [← EReal.coe_sub, ← EReal.coe_mul]
  rw [coe_total, Ideal.div_coe h256, ← EReal.coe_mul, ← EReal.coe_add, mul_one_div, mul_one_div]
  change Ideal.div _ (Ideal.sqrt ((rvar a + tiny : ℝ) : EReal)) = _
  rw [Ideal.sqrt_coe, if_neg (not_lt.2 hp.le), Ideal.div_coe (Real.sqrt_pos.2 hp).ne', ← EReal.coe_mul, mul_one_div]
  rfl

theorem spread_real (a : Fin 256 → ℝ) :
    ∑ k, a k * a k - (∑ k, a k) * ((∑ k, a k) * (1 / 256)) + 256 * tiny = 256 * (rvar a + tiny) := by
  have : ∑ k, (a k - (∑ x, a x) / 256) * (a k - (∑ x, a x) / 256)
      = ∑ k, a k * a k - (∑ k, a k) * ((∑ k, a k) * (1 / 256)) := by
    generalize hS : ∑ x, a x = S
    have e : ∀ k, (a k - S / 256) * (a k - S / 256) = a k * a k - (S / 128) * a k + S * S / 65536 := fun k => by ring
    simp only [e]
    rw [Finset.sum_add_distrib, Finset.sum_sub_distrib, ← Finset.mul_sum, hS]
    simp; ring
  rw [rvar, this]; ring

theorem kerNorm_coe (a g : Fin 256 → ℝ) (d : Fin 256) :
    kerNorm (fun x => (a x : EReal)) (fun x => (g x : EReal) * Ideal.ofBits .f32 0x41800000#32) d
      = ((rnorm a d * g d : ℝ) : EReal) := by
  have hp : 0 < rvar a + tiny := add_pos_of_nonneg_of_pos (rvar_nonneg a) tiny_pos
  have hq : 0 < 256 * (rvar a + tiny) := by positivity
  have hs : Real.sqrt (256 * (rvar a + tiny)) = 16 * Real.sqrt (rvar a + tiny) := by
    rw [Real.sqrt_mul (by norm_num), show (256 : ℝ) = 16 ^ 2 by norm_num, Real.sqrt_sq (by norm_num)]
  unfold kerNorm spread
  simp only [fold_eq]
  simp only [inv_width_lit, big_tiny_lit, sixteen_lit, ← EReal.coe_mul]
  rw [coe_total, coe_total]
  simp only [← EReal.coe_mul, ← EReal.coe_sub, ← EReal.coe_add]
  rw [spread_real, Ideal.rsqrt_coe, if_neg (not_lt.2 hq.le), if_neg hq.ne', hs]
  simp only [← EReal.coe_mul]
  have h0 : Real.sqrt (rvar a + tiny) ≠ 0 := (Real.sqrt_pos.2 hp).ne'
  congr 1
  unfold rnorm
  field_simp

/-! ## The slow pathway's score of one expert -/

/-- The lower half of a width of 512. -/
abbrev lo (k : Fin 256) : Fin 512 := ⟨k.val, by omega⟩
/-- The upper half of a width of 512. -/
abbrev hi (k : Fin 256) : Fin 512 := ⟨256 + k.val, by omega⟩

/-- A layer's activation before the norm: the node's features against the lower half of the weights, the query against
    the upper half. -/
def lift (v q b : Fin 256 → EReal) (W : Fin 256 → Fin 512 → EReal) (d : Fin 256) : EReal :=
  gelu (∑ k, v k * W d (lo k) + ∑ k, q k * W d (hi k) + b d)

/-- A layer as the reference spells it: activation, norm with gain and offset, and the node's own features again. -/
def refLayer (v q b g be : Fin 256 → EReal) (W : Fin 256 → Fin 512 → EReal) (d : Fin 256) : EReal :=
  refNorm (lift v q b W) d * g d + be d + v d

/-- The score of an expert `v` for a query `q` as the reference spells it. -/
def refScore (v q b0 g0 be0 b1 g1 be1 ow : Fin 256 → EReal) (W0 W1 : Fin 256 → Fin 512 → EReal) (ob : EReal) : EReal :=
  ∑ d, refLayer (refLayer v q b0 g0 be0 W0) q b1 g1 be1 W1 d * ow d + ob

/-- The kernel's first layer: the two products on weights scaled beforehand, the norm with its gain times 16. -/
def kerFirst (v q b0 g0 be0 : Fin 256 → EReal) (W0 : Fin 256 → Fin 512 → EReal) (d : Fin 256) : EReal :=
  kerNorm (fun d => bent ((∑ k, q k * (W0 d (hi k) * root) + b0 d * root) + ∑ k, v k * (W0 d (lo k) * root)))
      (fun d => g0 d * Ideal.ofBits .f32 0x41800000#32) d + (be0 d + v d)

/-- The kernel's second activation, of the first layer's features `n`. -/
def kerSecond (n q b1 : Fin 256 → EReal) (W1 : Fin 256 → Fin 512 → EReal) (d : Fin 256) : EReal :=
  bent (∑ k, n k * (W1 d (lo k) * root) + (∑ k, q k * (W1 d (hi k) * root) + b1 d * root))

/-- The score of an expert `v` for a query `q` as the kernel spells it. -/
def kerScore (v q b0 g0 be0 b1 g1 be1 ow : Fin 256 → EReal) (W0 W1 : Fin 256 → Fin 512 → EReal) (ob : EReal) : EReal :=
  fold (fun d => kerNorm (kerSecond (kerFirst v q b0 g0 be0 W0) q b1 W1)
        (fun d => g1 d * ow d * Ideal.ofBits .f32 0x41800000#32) d)
    + fold (fun d => kerFirst v q b0 g0 be0 W0 d * ow d)
    + ((∑ d, be1 d * ow d) + ob)

/-- The first activation on scaled weights is the reference's. -/
theorem bent_lift (v q b : Fin 256 → EReal) (W : Fin 256 → Fin 512 → EReal) (d : Fin 256) :
    bent ((∑ k, q k * (W d (hi k) * root) + b d * root) + ∑ k, v k * (W d (lo k) * root)) = lift v q b W d := by
  rw [dot_root]; simp only [← mul_assoc]; rw [sum_root, add_root, bent_root, lift]
  rw [add_comm, ← add_assoc]

theorem bent_lift' (v q b : Fin 256 → EReal) (W : Fin 256 → Fin 512 → EReal) (d : Fin 256) :
    bent (∑ k, v k * (W d (lo k) * root) + (∑ k, q k * (W d (hi k) * root) + b d * root)) = lift v q b W d := by
  rw [add_comm, bent_lift]

/-- A layer's activation of real numbers. -/
def rlift (v q b : Fin 256 → ℝ) (W : Fin 256 → Fin 512 → ℝ) (d : Fin 256) : ℝ :=
  rgelu (∑ k, v k * W d (lo k) + ∑ k, q k * W d (hi k) + b d)

theorem lift_coe (v q b : Fin 256 → ℝ) (W : Fin 256 → Fin 512 → ℝ) :
    lift (fun k => (v k : EReal)) (fun k => (q k : EReal)) (fun k => (b k : EReal)) (fun d k => (W d k : EReal))
      = fun d => (rlift v q b W d : EReal) := by
  funext d
  unfold lift rlift
  simp only [← EReal.coe_mul]
  rw [coe_total, coe_total, ← EReal.coe_add, ← EReal.coe_add, gelu_coe]

/-- A layer of real numbers. -/
def rlayer (v q b g be : Fin 256 → ℝ) (W : Fin 256 → Fin 512 → ℝ) (d : Fin 256) : ℝ :=
  rnorm (rlift v q b W) d * g d + be d + v d

theorem refLayer_coe (v q b g be : Fin 256 → ℝ) (W : Fin 256 → Fin 512 → ℝ) :
    refLayer (fun k => (v k : EReal)) (fun k => (q k : EReal)) (fun k => (b k : EReal)) (fun k => (g k : EReal))
      (fun k => (be k : EReal)) (fun d k => (W d k : EReal)) = fun d => (rlayer v q b g be W d : EReal) := by
  funext d
  unfold refLayer rlayer
  rw [lift_coe, refNorm_coe, ← EReal.coe_mul, ← EReal.coe_add, ← EReal.coe_add]

theorem kerFirst_coe (v q b g be : Fin 256 → ℝ) (W : Fin 256 → Fin 512 → ℝ) :
    kerFirst (fun k => (v k : EReal)) (fun k => (q k : EReal)) (fun k => (b k : EReal)) (fun k => (g k : EReal))
      (fun k => (be k : EReal)) (fun d k => (W d k : EReal)) = fun d => (rlayer v q b g be W d : EReal) := by
  funext d
  unfold kerFirst rlayer
  simp only [bent_lift (fun k => (v k : EReal)) (fun k => (q k : EReal)) (fun k => (b k : EReal)) (fun d k => (W d k : EReal))]
  rw [lift_coe, kerNorm_coe, ← EReal.coe_add, ← EReal.coe_add, add_assoc]

theorem kerSecond_coe (n q b : Fin 256 → ℝ) (W : Fin 256 → Fin 512 → ℝ) :
    kerSecond (fun k => (n k : EReal)) (fun k => (q k : EReal)) (fun k => (b k : EReal)) (fun d k => (W d k : EReal))
      = fun d => (rlift n q b W d : EReal) :=
  (funext fun d => bent_lift' (fun k => (n k : EReal)) (fun k => (q k : EReal)) (fun k => (b k : EReal))
    (fun d k => (W d k : EReal)) d).trans (lift_coe n q b W)

/-- A real weight times an offset between two real numbers: the real part apart, whatever the offset is. -/
theorem offset_apart (a n w : ℝ) (B : EReal) :
    ((a : EReal) + B + (n : EReal)) * (w : EReal) = ((a * w + n * w : ℝ) : EReal) + B * (w : EReal) := by
  induction B with
  | coe b =>
    simp only [← EReal.coe_add, ← EReal.coe_mul]
    congr 1; ring
  | top =>
    rw [EReal.coe_add_top, EReal.top_add_coe]
    rcases lt_trichotomy w 0 with h | rfl | h
    · rw [EReal.top_mul_coe_of_neg h, EReal.add_bot]
    · simp
    · rw [EReal.top_mul_coe_of_pos h, EReal.coe_add_top]
  | bot =>
    rw [EReal.add_bot, EReal.bot_add]
    rcases lt_trichotomy w 0 with h | rfl | h
    · rw [EReal.bot_mul_coe_of_neg h, EReal.coe_add_top]
    · simp
    · rw [EReal.bot_mul_coe_of_pos h, EReal.add_bot]

/-- THE TWO SPELLINGS AGREE on finite numbers, whatever the second layer's offset and the last offset are. -/
theorem score_agree (v q b0 g0 be0 b1 g1 ow : Fin 256 → ℝ) (be1 : Fin 256 → EReal) (W0 W1 : Fin 256 → Fin 512 → ℝ) (ob : EReal) :
    kerScore (fun k => (v k : EReal)) (fun k => (q k : EReal)) (fun k => (b0 k : EReal)) (fun k => (g0 k : EReal))
        (fun k => (be0 k : EReal)) (fun k => (b1 k : EReal)) (fun k => (g1 k : EReal)) be1
        (fun k => (ow k : EReal)) (fun d k => (W0 d k : EReal)) (fun d k => (W1 d k : EReal)) ob
      = refScore (fun k => (v k : EReal)) (fun k => (q k : EReal)) (fun k => (b0 k : EReal)) (fun k => (g0 k : EReal))
        (fun k => (be0 k : EReal)) (fun k => (b1 k : EReal)) (fun k => (g1 k : EReal)) be1
        (fun k => (ow k : EReal)) (fun d k => (W0 d k : EReal)) (fun d k => (W1 d k : EReal)) ob := by
  unfold kerScore refScore
  rw [kerFirst_coe, refLayer_coe, kerSecond_coe]
  generalize rlayer v q b0 g0 be0 W0 = n
  have h3 : ∀ A : Fin 256 → ℝ, (fun d => kerNorm (fun d => (A d : EReal))
      (fun d => (g1 d : EReal) * (ow d : EReal) * Ideal.ofBits .f32 0x41800000#32) d)
        = fun d => ((rnorm A d * (g1 d * ow d) : ℝ) : EReal) := fun A => by
    funext d
    have e := kerNorm_coe A (fun d => g1 d * ow d) d
    simp only [EReal.coe_mul] at e ⊢
    exact e
  have h4 : ∀ d, refLayer (fun k => (n k : EReal)) (fun k => (q k : EReal)) (fun k => (b1 k : EReal)) (fun k => (g1 k : EReal))
      be1 (fun d k => (W1 d k : EReal)) d * (ow d : EReal)
        = ((rnorm (rlift n q b1 W1) d * g1 d * ow d + n d * ow d : ℝ) : EReal) + be1 d * (ow d : EReal) := fun d => by
    unfold refLayer
    rw [lift_coe, refNorm_coe, ← EReal.coe_mul, offset_apart]
  rw [h3]
  simp only [h4, fold_eq, ← EReal.coe_mul]
  rw [Finset.sum_add_distrib, coe_total, coe_total, coe_total, ← EReal.coe_add, ← add_assoc, ← Finset.sum_add_distrib]
  simp only [mul_assoc]

end Cert.Router

end
-- ==== Proof.Operands.lean ====
/-
  The blocks the kernel's body reads, as formulas over the kernel's arguments: the host part of the kernel transposes the
  weights, scales them by the root of one half, scales the norms' gains by 16 and sums the last offsets against the output weights.
-/
module

public import proofs.«01_k».proof.Proof.Gen.KernelIdeal.Frame
public import proofs.«01_k».proof.Proof.Spec
public import Idealize.ShloMosaic.Lib.StableHlo.ReadAt
public import Idealize.ShloMosaic.Lib.Pipeline.ValueKit.Geometry

@[expose] public section

set_option maxRecDepth 16384

noncomputable section

namespace Cert.Router

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-! ## The arguments, typed -/

/-- Argument 0: the tokens. -/
abbrev a_x : FVec Ideal S8192x2048 .f32 := m ((c : Thread nD τ).loc main_arg0)
/-- Argument 1: the fast pathway's first weights. -/
abbrev a_fw1 : FVec Ideal S1024x2048 .f32 := m ((c : Thread nD τ).loc main_arg1)
/-- Argument 2: their offsets. -/
abbrev a_fb1 : FVec Ideal S1024 .f32 := m ((c : Thread nD τ).loc main_arg2)
/-- Argument 3: the fast pathway's second weights. -/
abbrev a_fw2 : FVec Ideal S64x1024 .f32 := m ((c : Thread nD τ).loc main_arg3)
/-- Argument 4: their offsets. -/
abbrev a_fb2 : FVec Ideal S64 .f32 := m ((c : Thread nD τ).loc main_arg4)
/-- Argument 5: the experts' embeddings. -/
abbrev a_emb : FVec Ideal S64x256 .f32 := m ((c : Thread nD τ).loc main_arg5)
/-- Argument 6: the query weights. -/
abbrev a_qw : FVec Ideal S256x2048 .f32 := m ((c : Thread nD τ).loc main_arg6)
/-- Argument 7: their offsets. -/
abbrev a_qb : FVec Ideal S256 .f32 := m ((c : Thread nD τ).loc main_arg7)
/-- Argument 8: the output weights. -/
abbrev a_ow : FVec Ideal S1x256 .f32 := m ((c : Thread nD τ).loc main_arg8)
/-- Argument 9: their offset. -/
abbrev a_ob : FVec Ideal S1 .f32 := m ((c : Thread nD τ).loc main_arg9)
/-- Argument 10: the first graph layer's weights. -/
abbrev a_w0 : FVec Ideal S256x512 .f32 := m ((c : Thread nD τ).loc main_arg10)
/-- Argument 11: their offsets. -/
abbrev a_b0 : FVec Ideal S256 .f32 := m ((c : Thread nD τ).loc main_arg11)
/-- Argument 12: its norm's gain. -/
abbrev a_g0 : FVec Ideal S256 .f32 := m ((c : Thread nD τ).loc main_arg12)
/-- Argument 13: its norm's offset. -/
abbrev a_be0 : FVec Ideal S256 .f32 := m ((c : Thread nD τ).loc main_arg13)
/-- Argument 14: the second graph layer's weights. -/
abbrev a_w1 : FVec Ideal S256x512 .f32 := m ((c : Thread nD τ).loc main_arg14)
/-- Argument 15: their offsets. -/
abbrev a_b1 : FVec Ideal S256 .f32 := m ((c : Thread nD τ).loc main_arg15)
/-- Argument 16: its norm's gain. -/
abbrev a_g1 : FVec Ideal S256 .f32 := m ((c : Thread nD τ).loc main_arg16)
/-- Argument 17: its norm's offset. -/
abbrev a_be1 : FVec Ideal S256 .f32 := m ((c : Thread nD τ).loc main_arg17)

/-! ## The arrays the windows read -/

/-- The array of window 1. -/
abbrev arr1 : FVec Ideal S2048x1024 .f32 := V m c main_v3
/-- The array of window 2. -/
abbrev arr2 : FVec Ideal S1x1024 .f32 := V m c main_v37
/-- The array of window 3. -/
abbrev arr3 : FVec Ideal S1024x64 .f32 := V m c main_v4
/-- The array of window 4. -/
abbrev arr4 : FVec Ideal S1x64 .f32 := V m c main_v38
/-- The array of window 5. -/
abbrev arr5 : FVec Ideal S2048x256 .f32 := V m c main_v5
/-- The array of window 6. -/
abbrev arr6 : FVec Ideal S1x256 .f32 := V m c main_v39
/-- The array of window 7. -/
abbrev arr7 : FVec Ideal S64x256 .f32 := V m c main_arg5
/-- The array of window 8. -/
abbrev arr8 : FVec Ideal S256x256 .f32 := V m c main_v9
/-- The array of window 9. -/
abbrev arr9 : FVec Ideal S256x512 .f32 := V m c main_v22
/-- The array of window 10. -/
abbrev arr10 : FVec Ideal S1x512 .f32 := V m c main_v40
/-- The array of window 11. -/
abbrev arr11 : FVec Ideal S1x256 .f32 := V m c main_v41
/-- The array of window 12. -/
abbrev arr12 : FVec Ideal S256x256 .f32 := V m c main_v17
/-- The array of window 13. -/
abbrev arr13 : FVec Ideal S1x256 .f32 := V m c main_v42
/-- The array of window 14. -/
abbrev arr14 : FVec Ideal S1x256 .f32 := V m c main_v43
/-- The array of window 15. -/
abbrev arr15 : FVec Ideal S1x1 .f32 := V m c main_v34
/-- The array of window 16. -/
abbrev arr16 : FVec Ideal S1x256 .f32 := V m c main_v44
/-- The array of window 17. -/
abbrev arr17 : FVec Ideal S1x1 .f32 := V m c main_v45

theorem w1t_arr (k : Fin 2048) (h : Fin 1024) : arr1 m c (ix2 k h) = a_fw1 m c (ix2 h k) * root := by
  show StableHlo.after hostOps0 (fun b => m (c, b)) (Proc.devRef .tc main_v3) (ix2 k h) = _
  after_reads_at
  exact congrArg _ root_lit

theorem b1s_arr (h : Fin 1024) : arr2 m c (ix2 0 h) = a_fb1 m c (ix1 h) * root := by
  show StableHlo.after hostOps0 (fun b => m (c, b)) (Proc.devRef .tc main_v37) (ix2 0 h) = _
  after_reads_at
  exact congrArg _ root_lit

theorem w2t_arr (h : Fin 1024) (e : Fin 64) : arr3 m c (ix2 h e) = a_fw2 m c (ix2 e h) := by
  show StableHlo.after hostOps0 (fun b => m (c, b)) (Proc.devRef .tc main_v4) (ix2 h e) = _
  after_reads_at

theorem b2r_arr (e : Fin 64) : arr4 m c (ix2 0 e) = a_fb2 m c (ix1 e) := by
  show StableHlo.after hostOps0 (fun b => m (c, b)) (Proc.devRef .tc main_v38) (ix2 0 e) = _
  after_reads_at

theorem qwt_arr (k : Fin 2048) (d : Fin 256) : arr5 m c (ix2 k d) = a_qw m c (ix2 d k) := by
  show StableHlo.after hostOps0 (fun b => m (c, b)) (Proc.devRef .tc main_v5) (ix2 k d) = _
  after_reads_at

theorem qbr_arr (d : Fin 256) : arr6 m c (ix2 0 d) = a_qb m c (ix1 d) := by
  show StableHlo.after hostOps0 (fun b => m (c, b)) (Proc.devRef .tc main_v39) (ix2 0 d) = _
  after_reads_at

theorem embr_arr (n : Fin 64) (d : Fin 256) : arr7 m c (ix2 n d) = a_emb m c (ix2 n d) := by
  show V m c main_arg5 _ = _; rw [V_main_arg5]

theorem w0n_arr (k d : Fin 256) : arr8 m c (ix2 k d) = a_w0 m c (ix2 d (lo k)) * root := by
  show StableHlo.after hostOps0 (fun b => m (c, b)) (Proc.devRef .tc main_v9) (ix2 k d) = _
  after_reads_at
  exact congrArg _ root_lit

theorem wq_lo_arr (k d : Fin 256) : arr9 m c (ix2 k (lo d)) = a_w0 m c (ix2 d (hi k)) * root := by
  show StableHlo.after hostOps0 (fun b => m (c, b)) (Proc.devRef .tc main_v22) (ix2 k (lo d)) = _
  after_reads_at
  exact congrArg _ root_lit

theorem wq_hi_arr (k d : Fin 256) : arr9 m c (ix2 k (hi d)) = a_w1 m c (ix2 d (hi k)) * root := by
  show StableHlo.after hostOps0 (fun b => m (c, b)) (Proc.devRef .tc main_v22) (ix2 k (hi d)) = _
  after_reads_at
  exact congrArg _ root_lit

theorem bq_lo_arr (d : Fin 256) : arr10 m c (ix2 0 (lo d)) = a_b0 m c (ix1 d) * root := by
  show StableHlo.after hostOps0 (fun b => m (c, b)) (Proc.devRef .tc main_v40) (ix2 0 (lo d)) = _
  after_reads_at
  exact congrArg _ root_lit

theorem bq_hi_arr (d : Fin 256) : arr10 m c (ix2 0 (hi d)) = a_b1 m c (ix1 d) * root := by
  show StableHlo.after hostOps0 (fun b => m (c, b)) (Proc.devRef .tc main_v40) (ix2 0 (hi d)) = _
  after_reads_at
  exact congrArg _ root_lit

theorem be0r_arr (d : Fin 256) : arr11 m c (ix2 0 d) = a_be0 m c (ix1 d) := by
  show StableHlo.after hostOps0 (fun b => m (c, b)) (Proc.devRef .tc main_v41) (ix2 0 d) = _
  after_reads_at

theorem w1n_arr (k d : Fin 256) : arr12 m c (ix2 k d) = a_w1 m c (ix2 d (lo k)) * root := by
  show StableHlo.after hostOps0 (fun b => m (c, b)) (Proc.devRef .tc main_v17) (ix2 k d) = _
  after_reads_at
  exact congrArg _ root_lit

theorem g0s_arr (d : Fin 256) : arr13 m c (ix2 0 d) = a_g0 m c (ix1 d) * Ideal.ofBits .f32 0x41800000#32 := by
  show StableHlo.after hostOps0 (fun b => m (c, b)) (Proc.devRef .tc main_v42) (ix2 0 d) = _
  after_reads_at

theorem g1ow_arr (d : Fin 256) : arr14 m c (ix2 0 d) = a_g1 m c (ix1 d) * a_ow m c (ix2 0 d) * Ideal.ofBits .f32 0x41800000#32 := by
  show StableHlo.after hostOps0 (fun b => m (c, b)) (Proc.devRef .tc main_v43) (ix2 0 d) = _
  after_reads_at

theorem be1ow_arr  : arr15 m c (ix2 0 0) = ∑ d : Fin 256, a_be1 m c (ix1 d) * a_ow m c (ix2 0 d) := by
  show StableHlo.after hostOps0 (fun b => m (c, b)) (Proc.devRef .tc main_v34) (ix2 0 0) = _
  after_reads_at

theorem owr_arr (d : Fin 256) : arr16 m c (ix2 0 d) = a_ow m c (ix2 0 d) := by
  show StableHlo.after hostOps0 (fun b => m (c, b)) (Proc.devRef .tc main_v44) (ix2 0 d) = _
  after_reads_at

theorem obr_arr  : arr17 m c (ix2 0 0) = a_ob m c (ix1 0) := by
  show StableHlo.after hostOps0 (fun b => m (c, b)) (Proc.devRef .tc main_v45) (ix2 0 0) = _
  after_reads_at

/-! ## The blocks -/

/-- Row `y` of the token block that point `t` reads, as a row of the tokens. -/
def rowIn (t : Fin cfg0.N) (y : Fin 128) : Fin 8192 := ⟨min t.val 63 * 128 + y.val, by have := y.isLt; omega⟩

theorem index0 : ∀ t : Fin cfg0.N, win0_0.index t = ![min t.val 63, 0] :=
  (by decide +kernel : ∀ t : Fin grid0.N, win0_0.index t = ![min t.val 63, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![0, 0] :=
  (by decide +kernel : ∀ t : Fin grid0.N, win0_17.index t = ![0, 0])

/-- The token block of a point: 128 rows of the tokens. -/
theorem tok_blk (t : Fin cfg0.N) (y : Fin 128) (k : Fin 2048) :
    (iblk m c 0 t : FVec Ideal S128x2048 .f32) (ix2 y k) = a_x m c (ix2 (rowIn t y) k) := by
  have e := index0
  have hV := V_main_arg0 m c
  blk_simp [iblk]
  rw [hV]
  refine congrArg _ ?_
  blk_ext [e, rowIn]

theorem blk1 (t : Fin cfg0.N) (i : Fin 2048) (j : Fin 1024) : (iblk m c 1 t : FVec Ideal S2048x1024 .f32) (ix2 i j) = arr1 m c (ix2 i j) := by
  have e := index1
  blk_simp [iblk]
  refine congrArg (V m c main_v3) ?_
  blk_ext [e]

theorem blk2 (t : Fin cfg0.N) (i : Fin 1) (j : Fin 1024) : (iblk m c 2 t : FVec Ideal S1x1024 .f32) (ix2 i j) = arr2 m c (ix2 i j) := by
  have e := index2
  blk_simp [iblk]
  refine congrArg (V m c main_v37) ?_
  blk_ext [e]

theorem blk3 (t : Fin cfg0.N) (i : Fin 1024) (j : Fin 64) : (iblk m c 3 t : FVec Ideal S1024x64 .f32) (ix2 i j) = arr3 m c (ix2 i j) := by
  have e := index3
  blk_simp [iblk]
  refine congrArg (V m c main_v4) ?_
  blk_ext [e]

theorem blk4 (t : Fin cfg0.N) (i : Fin 1) (j : Fin 64) : (iblk m c 4 t : FVec Ideal S1x64 .f32) (ix2 i j) = arr4 m c (ix2 i j) := by
  have e := index4
  blk_simp [iblk]
  refine congrArg (V m c main_v38) ?_
  blk_ext [e]

theorem blk5 (t : Fin cfg0.N) (i : Fin 2048) (j : Fin 256) : (iblk m c 5 t : FVec Ideal S2048x256 .f32) (ix2 i j) = arr5 m c (ix2 i j) := by
  have e := index5
  blk_simp [iblk]
  refine congrArg (V m c main_v5) ?_
  blk_ext [e]

theorem blk6 (t : Fin cfg0.N) (i : Fin 1) (j : Fin 256) : (iblk m c 6 t : FVec Ideal S1x256 .f32) (ix2 i j) = arr6 m c (ix2 i j) := by
  have e := index6
  blk_simp [iblk]
  refine congrArg (V m c main_v39) ?_
  blk_ext [e]

theorem blk7 (t : Fin cfg0.N) (i : Fin 64) (j : Fin 256) : (iblk m c 7 t : FVec Ideal S64x256 .f32) (ix2 i j) = arr7 m c (ix2 i j) := by
  have e := index7
  blk_simp [iblk]
  refine congrArg (V m c main_arg5) ?_
  blk_ext [e]

theorem blk8 (t : Fin cfg0.N) (i : Fin 256) (j : Fin 256) : (iblk m c 8 t : FVec Ideal S256x256 .f32) (ix2 i j) = arr8 m c (ix2 i j) := by
  have e := index8
  blk_simp [iblk]
  refine congrArg (V m c main_v9) ?_
  blk_ext [e]

theorem blk9 (t : Fin cfg0.N) (i : Fin 256) (j : Fin 512) : (iblk m c 9 t : FVec Ideal S256x512 .f32) (ix2 i j) = arr9 m c (ix2 i j) := by
  have e := index9
  blk_simp [iblk]
  refine congrArg (V m c main_v22) ?_
  blk_ext [e]

theorem blk10 (t : Fin cfg0.N) (i : Fin 1) (j : Fin 512) : (iblk m c 10 t : FVec Ideal S1x512 .f32) (ix2 i j) = arr10 m c (ix2 i j) := by
  have e := index10
  blk_simp [iblk]
  refine congrArg (V m c main_v40) ?_
  blk_ext [e]

theorem blk11 (t : Fin cfg0.N) (i : Fin 1) (j : Fin 256) : (iblk m c 11 t : FVec Ideal S1x256 .f32) (ix2 i j) = arr11 m c (ix2 i j) := by
  have e := index11
  blk_simp [iblk]
  refine congrArg (V m c main_v41) ?_
  blk_ext [e]

theorem blk12 (t : Fin cfg0.N) (i : Fin 256) (j : Fin 256) : (iblk m c 12 t : FVec Ideal S256x256 .f32) (ix2 i j) = arr12 m c (ix2 i j) := by
  have e := index12
  blk_simp [iblk]
  refine congrArg (V m c main_v17) ?_
  blk_ext [e]

theorem blk13 (t : Fin cfg0.N) (i : Fin 1) (j : Fin 256) : (iblk m c 13 t : FVec Ideal S1x256 .f32) (ix2 i j) = arr13 m c (ix2 i j) := by
  have e := index13
  blk_simp [iblk]
  refine congrArg (V m c main_v42) ?_
  blk_ext [e]

theorem blk14 (t : Fin cfg0.N) (i : Fin 1) (j : Fin 256) : (iblk m c 14 t : FVec Ideal S1x256 .f32) (ix2 i j) = arr14 m c (ix2 i j) := by
  have e := index14
  blk_simp [iblk]
  refine congrArg (V m c main_v43) ?_
  blk_ext [e]

theorem blk15 (t : Fin cfg0.N) (i : Fin 1) (j : Fin 1) : (iblk m c 15 t : FVec Ideal S1x1 .f32) (ix2 i j) = arr15 m c (ix2 i j) := by
  have e := index15
  blk_simp [iblk]
  refine congrArg (V m c main_v34) ?_
  blk_ext [e]

theorem blk16 (t : Fin cfg0.N) (i : Fin 1) (j : Fin 256) : (iblk m c 16 t : FVec Ideal S1x256 .f32) (ix2 i j) = arr16 m c (ix2 i j) := by
  have e := index16
  blk_simp [iblk]
  refine congrArg (V m c main_v44) ?_
  blk_ext [e]

theorem blk17 (t : Fin cfg0.N) (i : Fin 1) (j : Fin 1) : (iblk m c 17 t : FVec Ideal S1x1 .f32) (ix2 i j) = arr17 m c (ix2 i j) := by
  have e := index17
  blk_simp [iblk]
  refine congrArg (V m c main_v45) ?_
  blk_ext [e]

end Cert.Router

end
-- ==== Proof.Payloads.lean ====
/-
  The kernel's scores and results at one element, as the formulas of Proof/Spec.lean: each vector expression of the body
  is read at an index, whatever vectors it is given.
-/
module

public import proofs.«01_k».proof.Proof.Body
public import proofs.«01_k».proof.Proof.Spec
public import Idealize.ShloMosaic.Lib.Pointwise

@[expose] public section

set_option maxRecDepth 16384

noncomputable section

namespace Cert.Router

open Idealize.ShloMosaic
open Cert.KernelIdeal Cert.KernelIdeal.Gen

/-- The constant the idealized kernel names is the root of one half. -/
theorem root_named : Named.named (F := Ideal) κ "root_half" (φ := .f32) 0x3F3504F3#32 = root :=
  IdealRules.named_const.ideal_named_scalar _ _ _ _ rfl

/-! ## Scores to results -/

theorem pay3_at (v0 : Vec Ideal S128x64 .f32) (i : Fin 128) (e : Fin 64) :
    k0_pay3 v0 (ix2 i e) = soft (fun e => v0 (ix2 i e)) e := by
  pointwise [k0_pay3]
  rfl

theorem pay4_at (v0 : Vec Ideal S128x64 .f32) (i : Fin 128) :
    k0_pay4 v0 (ix2 i 0) = sure (fun e => v0 (ix2 i e)) := by
  pointwise [k0_pay4]
  simp only [pay3_at]
  rfl

theorem pay5_at (v0 v1 : Vec Ideal S128x64 .f32) (i : Fin 128) (e : Fin 64) :
    k0_pay5 v0 v1 (ix2 i e) = routed (fun e => v0 (ix2 i e)) (fun e => v1 (ix2 i e)) e := by
  pointwise [k0_pay5]
  simp only [pay3_at, pay4_at]
  rfl

/-! ## The fast pathway -/

theorem fastScores_at (x0 : Vec Ideal S128x2048 .f32) (x1 : Vec Ideal S2048x1024 .f32) (x2 : Vec Ideal S1x1024 .f32)
    (x3 : Vec Ideal S1024x64 .f32) (x4 : Vec Ideal S1x64 .f32) (i : Fin 128) (e : Fin 64) :
    fastScores x0 x1 x2 x3 x4 (ix2 i e)
      = ∑ h : Fin 1024, bent (∑ k : Fin 2048, x0 (ix2 i k) * x1 (ix2 k h) + x2 (ix2 0 h)) * x3 (ix2 h e) + x4 (ix2 0 e) := by
  pointwise [fastScores, k0_pay1, k0_pay6]
  simp only [root_named]
  rfl

/-! ## The slow pathway -/

theorem pay7_at (v42 : Vec Ideal S128x2048 .f32) (v63 : Vec Ideal S2048x256 .f32) (v66 : Vec Ideal S1x256 .f32)
    (i : Fin 128) (d : Fin 256) :
    k0_pay7 v42 v63 v66 (ix2 i d) = ∑ k : Fin 2048, v42 (ix2 i k) * v63 (ix2 k d) + v66 (ix2 0 d) := by
  pointwise [k0_pay7]

theorem pay8_at (v70 : Vec Ideal S64x256 .f32) (v71 : Vec Ideal S256x256 .f32) (n : Fin 64) (d : Fin 256) :
    k0_pay8 v70 v71 (ix2 n d) = ∑ k : Fin 256, v70 (ix2 n k) * v71 (ix2 k d) := by
  pointwise [k0_pay8]

theorem pay9_at (v69 : FVec Ideal S128x256 .f32) (v74 : Vec Ideal S256x512 .f32) (v77 : Vec Ideal S1x512 .f32) (i : Fin 128)
    (d : Fin 512) :
    k0_pay9 v69 v74 v77 (ix2 i d) = ∑ k : Fin 256, v69 (ix2 i k) * v74 (ix2 k d) + v77 (ix2 0 d) := by
  pointwise [k0_pay9]

theorem pay10_at (v69 : FVec Ideal S128x256 .f32) (v74 : Vec Ideal S256x512 .f32) (v77 : Vec Ideal S1x512 .f32) (i : Fin 128)
    (d : Fin 256) :
    k0_pay10 v69 v74 v77 (ix2 i d) = ∑ k : Fin 256, v69 (ix2 i k) * v74 (ix2 k (hi d)) + v77 (ix2 0 (hi d)) := by
  pointwise [k0_pay10, k0_pay9]

/-- The first layer's normalised part, off the query's part and the embeddings' part `v73` of its activation. -/
theorem pay11_at (v69 : FVec Ideal S128x256 .f32) (v73 : FVec Ideal S64x256 .f32) (v74 : Vec Ideal S256x512 .f32)
    (v77 : Vec Ideal S1x512 .f32) (v114 : Vec Ideal S1x256 .f32) (i : Fin 128) (n : Fin 64) (d : Fin 256) :
    k0_pay11 v69 v73 v74 v77 v114 (ix3 i n d)
      = kerNorm (fun d => bent (k0_pay9 v69 v74 v77 (ix2 i (lo d)) + v73 (ix2 n d))) (fun d => v114 (ix2 0 d)) d := by
  pointwise [k0_pay11]
  simp only [root_named]
  rfl

theorem pay13_at (v70 : Vec Ideal S64x256 .f32) (v120 : FVec Ideal S128x64x256 .f32) (v121 v128 : Vec Ideal S1x256 .f32)
    (i : Fin 128) (n : Fin 64) :
    k0_pay13 v70 v120 v121 v128 (ix2 i n)
      = fold (fun d => (v120 (ix3 i n d) + (v121 (ix2 0 d) + v70 (ix2 n d))) * v128 (ix2 0 d)) := by
  pointwise [k0_pay13, k0_pay12]
  rfl

theorem pay14_at (v70 : Vec Ideal S64x256 .f32) (v82 : FVec Ideal S128x256 .f32) (v120 : FVec Ideal S128x64x256 .f32)
    (v121 : Vec Ideal S1x256 .f32) (v138 : Vec Ideal S256x256 .f32) (i : Fin 128) (n : Fin 64) (d : Fin 256) :
    k0_pay14 v70 v82 v120 v121 v138 (ix3 i n d)
      = bent (∑ k : Fin 256, (v120 (ix3 i n k) + (v121 (ix2 0 k) + v70 (ix2 n k))) * v138 (ix2 k d) + v82 (ix2 i d)) := by
  pointwise [k0_pay14, k0_pay12]
  simp only [root_named]
  rfl

theorem pay16_at (v70 : Vec Ideal S64x256 .f32) (v82 : FVec Ideal S128x256 .f32) (v120 : FVec Ideal S128x64x256 .f32)
    (v121 : Vec Ideal S1x256 .f32) (v138 : Vec Ideal S256x256 .f32) (i : Fin 128) (n : Fin 64) :
    k0_pay16 v70 v82 v120 v121 v138 (ix3 i n 0)
      = fold (fun d => k0_pay14 v70 v82 v120 v121 v138 (ix3 i n d)) * Ideal.ofBits .f32 0x3B800000#32 := by
  pointwise [k0_pay16, k0_pay15]
  rfl

theorem pay17_at (v70 : Vec Ideal S64x256 .f32) (v82 : FVec Ideal S128x256 .f32) (v120 : FVec Ideal S128x64x256 .f32)
    (v121 : Vec Ideal S1x256 .f32) (v138 : Vec Ideal S256x256 .f32) (i : Fin 128) (n : Fin 64) :
    k0_pay17 v70 v82 v120 v121 v138 (ix3 i n 0) = spread (fun d => k0_pay14 v70 v82 v120 v121 v138 (ix3 i n d)) := by
  pointwise [k0_pay17, k0_pay16, k0_pay15]
  rfl

theorem pay2_at (v136 : FVec Ideal S128x64 .f32) (v150 : FVec Ideal S128x64x256 .f32) (v163 v167 : FVec Ideal S128x64x1 .f32)
    (v171 : Vec Ideal S1x256 .f32) (v183 v185 : Vec Ideal S1x1 .f32) (i : Fin 128) (n : Fin 64) :
    k0_pay2 v136 v150 v163 v167 v171 v183 v185 (ix2 i n)
      = fold (fun d => (v150 (ix3 i n d) - v163 (ix3 i n 0)) * (Ideal.rsqrt (v167 (ix3 i n 0)) * v171 (ix2 0 d)))
        + v136 (ix2 i n) + (v183 (ix2 0 0) + v185 (ix2 0 0)) := by
  pointwise [k0_pay2]
  rfl

end Cert.Router

end
-- ==== Proof.Refs.lean ====
/-
  The reference at one element, as the formulas of Proof/Spec.lean: its printed operations are read at an index in
  groups, from the tokens to the router's probabilities.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.Router.Ref

open Idealize.ShloMosaic
open Cert.ReferenceIdeal Cert.ReferenceIdeal.Read

variable (x0 : FVec Ideal S8192x2048 .f32) (x1 : FVec Ideal S1024x2048 .f32) (x2 : FVec Ideal S1024 .f32)
  (x3 : FVec Ideal S64x1024 .f32) (x4 : FVec Ideal S64 .f32) (x5 : FVec Ideal S64x256 .f32) (x6 : FVec Ideal S256x2048 .f32)
  (x7 : FVec Ideal S256 .f32) (x8 : FVec Ideal S1x256 .f32) (x9 : FVec Ideal S1 .f32) (x10 : FVec Ideal S256x512 .f32)
  (x11 x12 x13 : FVec Ideal S256 .f32) (x14 : FVec Ideal S256x512 .f32) (x15 x16 x17 : FVec Ideal S256 .f32)

/-! ## The fast pathway -/

theorem hidden_at (r : Fin 8192) (h : Fin 1024) :
    val_main_v4 (F := Ideal) x0 x1 x2 (ix2 r h) = ∑ k : Fin 2048, x0 (ix2 r k) * x1 (ix2 h k) + x2 (ix1 h) := by
  pointwise [val_main_v4, val_main_v3, val_main_v2, val_main_v1, val_main_v0]

theorem fast_at (r : Fin 8192) (e : Fin 64) :
    val_main_v17 (F := Ideal) x0 x1 x2 x3 x4 (ix2 r e)
      = ∑ h : Fin 1024, gelu (∑ k : Fin 2048, x0 (ix2 r k) * x1 (ix2 h k) + x2 (ix1 h)) * x3 (ix2 e h) + x4 (ix1 e) := by
  pointwise [val_main_v17, val_main_v16, val_main_v15, val_main_v14, val_main_v13, val_main_v12, val_main_v11, val_main_v10,
    val_main_v9, val_main_v8, val_main_v7, val_main_v6, val_main_v5, val_main_cst, val_main_cst_0]
  simp only [hidden_at]
  rfl

theorem fastProbs_at (r : Fin 8192) (e : Fin 64) :
    val_main_v28 (F := Ideal) x0 x1 x2 x3 x4 (ix2 r e)
      = soft (fun e => val_main_v17 (F := Ideal) x0 x1 x2 x3 x4 (ix2 r e)) e := by
  pointwise [val_main_v28, val_main_v27, val_main_v26, val_main_v25, val_main_v24, val_main_v23, val_main_v22, val_main_v21,
    val_main_v20, val_main_v19, val_main_v18, val_main_cst_1, val_main_cst_2, val_main_cst_3]
  exact soft_start _ e

theorem sure_at (r : Fin 8192) :
    val_main_v29 (F := Ideal) x0 x1 x2 x3 x4 (ix1 r)
      = sure (fun e => val_main_v17 (F := Ideal) x0 x1 x2 x3 x4 (ix2 r e)) := by
  pointwise [val_main_v29, val_main_cst_4]
  simp only [fastProbs_at]
  rfl

theorem conf_at (r : Fin 8192) :
    val_main_v148 (F := Ideal) x0 x1 x2 x3 x4 (ix2 r 0)
      = sure (fun e => val_main_v17 (F := Ideal) x0 x1 x2 x3 x4 (ix2 r e)) := by
  pointwise [val_main_v148]
  exact sure_at x0 x1 x2 x3 x4 r

/-! ## The slow pathway -/

theorem query_at (r : Fin 8192) (d : Fin 256) :
    val_main_v34 (F := Ideal) x0 x6 x7 (ix2 r d) = ∑ k : Fin 2048, x0 (ix2 r k) * x6 (ix2 d k) + x7 (ix1 d) := by
  pointwise [val_main_v34, val_main_v33, val_main_v32, val_main_v31, val_main_v30]

theorem act0_at (r : Fin 8192) (n : Fin 64) (d : Fin 256) :
    val_main_v52 (F := Ideal) x0 x5 x6 x7 x10 x11 (ix3 r n d)
      = lift (fun k => x5 (ix2 n k)) (fun k => val_main_v34 (F := Ideal) x0 x6 x7 (ix2 r k)) (fun d => x11 (ix1 d))
          (fun d k => x10 (ix2 d k)) d := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_cst_5, val_main_cst_6]
  rfl

/-- The variance's divisor: the width, less no degree of freedom, is positive. -/
theorem divisor : Ideal.ofBits .f32 0x43800000#32 - (FloatOps.sitofp .f32 0#32 : Ideal .f32) = Ideal.ofBits .f32 0x43800000#32 := by
  have h : (FloatOps.sitofp .f32 (0#32) : Ideal .f32) = (0 : EReal) := by simp [FloatOps.sitofp]
  rw [h]; exact sub_zero _

theorem divisor_pos : (0 : EReal) < Ideal.ofBits .f32 0x43800000#32 := by
  rw [width_lit]; exact EReal.coe_pos.2 (by norm_num)

theorem first_at (r : Fin 8192) (n : Fin 64) (d : Fin 256) :
    val_main_v71 (F := Ideal) x0 x5 x6 x7 x10 x11 x12 x13 (ix3 r n d)
      = refNorm (fun d => val_main_v52 (F := Ideal) x0 x5 x6 x7 x10 x11 (ix3 r n d)) d * x12 (ix1 d) + x13 (ix1 d)
        + x5 (ix2 n d) := by
  pointwise [val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_v54, val_main_v53, val_main_v36, val_main_v35, val_main_cst_7, val_main_cst_8, val_main_cst_9,
    val_main_c, val_main_call0_v12, val_main_call0_v11, val_main_call0_v13, val_main_call0_v10, val_main_call0_v9,
    val_main_call0_v8, val_main_call0_v7, val_main_call0_v6, val_main_call0_v5, val_main_call0_v4, val_main_call0_v3,
    val_main_call0_v2, val_main_call0_v1, val_main_call0_v0, val_main_call0_cst, val_main_call0_cst_0, val_main_call0_cst_1,
    val_main_call0_cst_2, val_main_call0_cst_3, val_main_call0_cst_4, val_main_call0_call0_v0, val_main_call0_call0_v1]
  rw [divisor, if_pos divisor_pos]
  rfl

theorem act1_at (r : Fin 8192) (n : Fin 64) (d : Fin 256) :
    val_main_v87 (F := Ideal) x0 x5 x6 x7 x10 x11 x12 x13 x14 x15 (ix3 r n d)
      = lift (fun k => val_main_v71 (F := Ideal) x0 x5 x6 x7 x10 x11 x12 x13 (ix3 r n k))
          (fun k => val_main_v34 (F := Ideal) x0 x6 x7 (ix2 r k)) (fun d => x15 (ix1 d)) (fun d k => x14 (ix2 d k)) d := by
  pointwise [val_main_v87, val_main_v86, val_main_v85, val_main_v84, val_main_v83, val_main_v82, val_main_v81, val_main_v80,
    val_main_v79, val_main_v78, val_main_v77, val_main_v76, val_main_v75, val_main_v74, val_main_v73, val_main_v72,
    val_main_cst_10, val_main_cst_11]
  rfl

theorem second_at (r : Fin 8192) (n : Fin 64) (d : Fin 256) :
    val_main_v106 (F := Ideal) x0 x5 x6 x7 x10 x11 x12 x13 x14 x15 x16 x17 (ix3 r n d)
      = refNorm (fun d => val_main_v87 (F := Ideal) x0 x5 x6 x7 x10 x11 x12 x13 x14 x15 (ix3 r n d)) d * x16 (ix1 d)
        + x17 (ix1 d) + val_main_v71 (F := Ideal) x0 x5 x6 x7 x10 x11 x12 x13 (ix3 r n d) := by
  pointwise [val_main_v106, val_main_v105, val_main_v104, val_main_v103, val_main_v102, val_main_v101, val_main_v100,
    val_main_v99, val_main_v98, val_main_v97, val_main_v96, val_main_v95, val_main_v94, val_main_v93, val_main_v92,
    val_main_v91, val_main_v90, val_main_v89, val_main_v88, val_main_cst_12, val_main_cst_13, val_main_cst_15, val_main_c_14,
    val_main_call1_v12, val_main_call1_v11, val_main_call1_v13, val_main_call1_v10, val_main_call1_v9, val_main_call1_v8,
    val_main_call1_v7, val_main_call1_v6, val_main_call1_v5, val_main_call1_v4, val_main_call1_v3, val_main_call1_v2,
    val_main_call1_v1, val_main_call1_v0, val_main_call1_cst, val_main_call1_cst_0, val_main_call1_cst_1,
    val_main_call1_cst_2, val_main_call1_cst_3, val_main_call1_cst_4, val_main_call1_call0_v0, val_main_call1_call0_v1]
  rw [divisor, if_pos divisor_pos]
  rfl

/-- The slow pathway's score of expert `n` for token `r`. -/
theorem score_at (r : Fin 8192) (n : Fin 64) :
    val_main_v112 (F := Ideal) x0 x5 x6 x7 x8 x9 x10 x11 x12 x13 x14 x15 x16 x17 (ix2 r n)
      = refScore (fun k => x5 (ix2 n k)) (fun d => ∑ k : Fin 2048, x0 (ix2 r k) * x6 (ix2 d k) + x7 (ix1 d))
          (fun d => x11 (ix1 d)) (fun d => x12 (ix1 d)) (fun d => x13 (ix1 d)) (fun d => x15 (ix1 d)) (fun d => x16 (ix1 d))
          (fun d => x17 (ix1 d)) (fun d => x8 (ix2 0 d)) (fun d k => x10 (ix2 d k)) (fun d k => x14 (ix2 d k)) (x9 (ix1 0)) := by
  pointwise [val_main_v112, val_main_v111, val_main_v110, val_main_v109, val_main_v108, val_main_v107]
  simp only [second_at, act1_at, first_at, act0_at, query_at]
  rfl

theorem slowProbs_at (r : Fin 8192) (e : Fin 64) :
    val_main_v123 (F := Ideal) x0 x5 x6 x7 x8 x9 x10 x11 x12 x13 x14 x15 x16 x17 (ix2 r e)
      = soft (fun e => val_main_v112 (F := Ideal) x0 x5 x6 x7 x8 x9 x10 x11 x12 x13 x14 x15 x16 x17 (ix2 r e)) e := by
  pointwise [val_main_v123, val_main_v122, val_main_v121, val_main_v120, val_main_v119, val_main_v118, val_main_v117,
    val_main_v116, val_main_v115, val_main_v114, val_main_v113, val_main_cst_16, val_main_cst_17, val_main_cst_18]
  exact soft_start _ e

/-! ## The results -/

theorem probs_at (r : Fin 8192) (e : Fin 64) :
    val_main_v147 (F := Ideal) x0 x1 x2 x3 x4 x5 x6 x7 x8 x9 x10 x11 x12 x13 x14 x15 x16 x17 (ix2 r e)
      = routed (fun e => val_main_v17 (F := Ideal) x0 x1 x2 x3 x4 (ix2 r e))
          (fun e => val_main_v112 (F := Ideal) x0 x5 x6 x7 x8 x9 x10 x11 x12 x13 x14 x15 x16 x17 (ix2 r e)) e := by
  pointwise [val_main_v147, val_main_v146, val_main_v145, val_main_v144, val_main_v143, val_main_v142, val_main_v141,
    val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_cst_19, val_main_cst_20, val_main_cst_21, val_main_cst_22, val_main_cst_23, val_main_cst_24,
    val_main_cst_25]
  simp only [sure_at, fastProbs_at, slowProbs_at]
  rfl

end Cert.Router.Ref

end
-- ==== Proof.Finite.lean ====
/-
  The precondition, read: where `slow_finite` holds of the arguments, every number of the arrays it names is real.
-/
module

public import proofs.«01_k».proof.Proof.Gen.Pre_slow_finite
public import Idealize.ShloMosaic.Lib.ReduceAll
public import Idealize.ShloMosaic.PureOps.Ideal.Laws

@[expose] public section

set_option maxRecDepth 16384

noncomputable section

namespace Cert.Router

open Idealize.ShloMosaic
open Cert.Pre_slow_finite

/-- Every number of an array is real. -/
def AllReal {S : Shape} (x : FVec Ideal S .f32) : Prop := ∃ y : S.Idx → ℝ, ∀ i, x i = (y i : EReal)

theorem real_of_abs_lt (x : EReal) (h : (max x (-x) : EReal) < ⊤) : ∃ r : ℝ, x = r := by
  induction x with
  | bot => exact absurd h (by simp)
  | coe r => exact ⟨r, rfl⟩
  | top => exact absurd h (by simp)

instance : Subsingleton S_.Idx := ⟨fun a b => funext fun k => k.elim0⟩

theorem allReal_of {S : Shape} {axes : List (Fin S.rank)} (x : FVec Ideal S .f32) (b : S_.BroadcastsInDim S (![] : Fin 0 → Fin S.rank))
    (h : S.ReducesTo axes S_) (h0 : 0 < S_.numel) (j : S_.Idx)
    (e : Host.reduce IntOp.andi (cmpf .olt (Host.absf x) (broadcastInDim S ![] b (constant S_ .f32 0x7F800000#32)))
      (constantI S_ 1 1#1) h h0 j = 1#1) : AllReal x := by
  have hx := fun i => Host.reduce_andi_all _ _ _ _ j e i
  have top_lit : Ideal.ofBits .f32 0x7F800000#32 = ⊤ := by simp [Ideal.ofBits, Ideal.ieee]
  have hr : ∀ i, ∃ r : ℝ, x i = r := fun i => by
    have := hx i
    refine real_of_abs_lt (x i) ?_
    have bit : ∀ b : Bool, BitVec.ofBool b = 1#1 ↔ b = true := by decide
    simpa [bit, Ideal.cmp, Ideal.absf_def, cmpf, FloatOps.cmpf, Host.absf, broadcastInDim, constant, top_lit] using this
  exact ⟨fun i => (hr i).choose, fun i => (hr i).choose_spec⟩

theorem andi_bit (a b : BitVec 1) : IntOp.andi a b = 1#1 ↔ a = 1#1 ∧ b = 1#1 := by revert a b; decide
theorem andi_elem {S : Shape} (x y : IVec S 1) (j : S.Idx) : andi x y j = 1#1 ↔ x j = 1#1 ∧ y j = 1#1 := andi_bit _ _

theorem finite_of_pre (x0 : FVec Ideal S8192x2048 .f32) (x1 : FVec Ideal S1024x2048 .f32) (x2 : FVec Ideal S1024 .f32)
    (x3 : FVec Ideal S64x1024 .f32) (x4 : FVec Ideal S64 .f32) (x5 : FVec Ideal S64x256 .f32) (x6 : FVec Ideal S256x2048 .f32)
    (x7 : FVec Ideal S256 .f32) (x8 : FVec Ideal S1x256 .f32) (x9 : FVec Ideal S1 .f32) (x10 : FVec Ideal S256x512 .f32)
    (x11 x12 x13 : FVec Ideal S256 .f32) (x14 : FVec Ideal S256x512 .f32) (x15 x16 x17 : FVec Ideal S256 .f32)
    (h : fn (F := Ideal) x0 x1 x2 x3 x4 x5 x6 x7 x8 x9 x10 x11 x12 x13 x14 x15 x16 x17 = fun _ => 1#1) :
    AllReal x0 ∧ AllReal x5 ∧ AllReal x6 ∧ AllReal x7 ∧ AllReal x8 ∧ AllReal x10 ∧ AllReal x11 ∧ AllReal x12 ∧ AllReal x13
      ∧ AllReal x14 ∧ AllReal x15 ∧ AllReal x16 := by
  have j : S_.Idx := fun k => k.elim0
  have e : _ = 1#1 := congrFun h j
  simp only [fn, fn_part1, fn_part2, fn_part3] at e
  obtain ⟨e, e16⟩ := (andi_elem _ _ _).1 e
  obtain ⟨e, e15⟩ := (andi_elem _ _ _).1 e
  obtain ⟨e, e14⟩ := (andi_elem _ _ _).1 e
  obtain ⟨e, e13⟩ := (andi_elem _ _ _).1 e
  obtain ⟨e, e12⟩ := (andi_elem _ _ _).1 e
  obtain ⟨e, e11⟩ := (andi_elem _ _ _).1 e
  obtain ⟨e, e10⟩ := (andi_elem _ _ _).1 e
  obtain ⟨e, e8⟩ := (andi_elem _ _ _).1 e
  obtain ⟨e, e7⟩ := (andi_elem _ _ _).1 e
  obtain ⟨e, e6⟩ := (andi_elem _ _ _).1 e
  obtain ⟨e, e5⟩ := (andi_elem _ _ _).1 e
  exact ⟨allReal_of _ _ _ _ _ e, allReal_of _ _ _ _ _ e5, allReal_of _ _ _ _ _ e6, allReal_of _ _ _ _ _ e7,
    allReal_of _ _ _ _ _ e8, allReal_of _ _ _ _ _ e10, allReal_of _ _ _ _ _ e11, allReal_of _ _ _ _ _ e12,
    allReal_of _ _ _ _ _ e13, allReal_of _ _ _ _ _ e14, allReal_of _ _ _ _ _ e15, allReal_of _ _ _ _ _ e16⟩

end Cert.Router

end
-- ==== Proof.Agree.lean ====
/-
  The kernel's results are the reference's: at every row and every expert the kernel's scores are the reference's, and so
  are the probabilities and the confidence made of them. The fast pathway's need no precondition; the slow pathway's need
  the numbers its layer norms read, and the output weights, to be real.
-/
module

public import proofs.«01_k».proof.Proof.Results
public import proofs.«01_k».proof.Proof.Operands
public import proofs.«01_k».proof.Proof.Payloads
public import proofs.«01_k».proof.Proof.Refs
public import proofs.«01_k».proof.Proof.Finite

@[expose] public section

set_option maxRecDepth 16384

noncomputable section

namespace Cert.Router

open Idealize.ShloMosaic Idealize.ShloMosaic.TcCoe
open Cert.KernelIdeal Cert.KernelIdeal.Gen

variable (m : (ℓ : Loc nD τ sig) → Buf (Elt Ideal) ℓ) (c : Dev nD)

/-! ## The kernel's scores -/

/-- The query of row `r`. -/
def query (r : Fin 8192) (d : Fin 256) : EReal := ∑ k : Fin 2048, a_x m c (ix2 r k) * a_qw m c (ix2 d k) + a_qb m c (ix1 d)

/-- The fast scores off the numbers their blocks hold, the first layer's scaled by the root of one half. -/
theorem fastScores_of {x0 : Vec Ideal S128x2048 .f32} {x1 : Vec Ideal S2048x1024 .f32} {x2 : Vec Ideal S1x1024 .f32}
    {x3 : Vec Ideal S1024x64 .f32} {x4 : Vec Ideal S1x64 .f32} {i : Fin 128} {e : Fin 64}
    {x : Fin 2048 → EReal} {w1 : Fin 1024 → Fin 2048 → EReal} {b1 w2 : Fin 1024 → EReal} {b2 : EReal}
    (h0 : ∀ k, x0 (ix2 i k) = x k) (h1 : ∀ k h, x1 (ix2 k h) = w1 h k * root) (h2 : ∀ h, x2 (ix2 0 h) = b1 h * root)
    (h3 : ∀ h, x3 (ix2 h e) = w2 h) (h4 : x4 (ix2 0 e) = b2) :
    fastScores x0 x1 x2 x3 x4 (ix2 i e) = ∑ h : Fin 1024, gelu (∑ k : Fin 2048, x k * w1 h k + b1 h) * w2 h + b2 := by
  rw [fastScores_at]
  simp only [h0, h1, h2, h3, h4, dot_root, bent_root]

/-- The slow scores off the numbers their blocks hold. -/
theorem slowScores_of {x0 : Vec Ideal S128x2048 .f32} {x5 : Vec Ideal S2048x256 .f32} {x6 : Vec Ideal S1x256 .f32}
    {x7 : Vec Ideal S64x256 .f32} {x8 : Vec Ideal S256x256 .f32} {x9 : Vec Ideal S256x512 .f32} {x10 : Vec Ideal S1x512 .f32}
    {x11 : Vec Ideal S1x256 .f32} {x12 : Vec Ideal S256x256 .f32} {x13 x14 : Vec Ideal S1x256 .f32} {x15 : Vec Ideal S1x1 .f32}
    {x16 : Vec Ideal S1x256 .f32} {x17 : Vec Ideal S1x1 .f32} {i : Fin 128} {n : Fin 64}
    {x : Fin 2048 → EReal} {qw : Fin 256 → Fin 2048 → EReal} {qb v b0 g0 be0 b1 g1 be1 ow : Fin 256 → EReal}
    {W0 W1 : Fin 256 → Fin 512 → EReal} {ob : EReal}
    (h0 : ∀ k, x0 (ix2 i k) = x k) (h5 : ∀ k d, x5 (ix2 k d) = qw d k) (h6 : ∀ d, x6 (ix2 0 d) = qb d)
    (h7 : ∀ d, x7 (ix2 n d) = v d) (h8 : ∀ k d, x8 (ix2 k d) = W0 d (lo k) * root)
    (h9l : ∀ k d, x9 (ix2 k (lo d)) = W0 d (hi k) * root) (h9h : ∀ k d, x9 (ix2 k (hi d)) = W1 d (hi k) * root)
    (h10l : ∀ d, x10 (ix2 0 (lo d)) = b0 d * root) (h10h : ∀ d, x10 (ix2 0 (hi d)) = b1 d * root)
    (h11 : ∀ d, x11 (ix2 0 d) = be0 d) (h12 : ∀ k d, x12 (ix2 k d) = W1 d (lo k) * root)
    (h13 : ∀ d, x13 (ix2 0 d) = g0 d * Ideal.ofBits .f32 0x41800000#32)
    (h14 : ∀ d, x14 (ix2 0 d) = g1 d * ow d * Ideal.ofBits .f32 0x41800000#32)
    (h15 : x15 (ix2 0 0) = ∑ d, be1 d * ow d) (h16 : ∀ d, x16 (ix2 0 d) = ow d) (h17 : x17 (ix2 0 0) = ob) :
    slowScores x0 x5 x6 x7 x8 x9 x10 x11 x12 x13 x14 x15 x16 x17 (ix2 i n)
      = kerScore v (fun d => ∑ k, x k * qw d k + qb d) b0 g0 be0 b1 g1 be1 ow W0 W1 ob := by
  have hq : ∀ d, k0_pay7 x0 x5 x6 (ix2 i d) = ∑ k, x k * qw d k + qb d := fun d => by
    rw [pay7_at]; simp only [h0, h5, h6]
  have hv : ∀ d, k0_pay8 x7 x8 (ix2 n d) = ∑ k, v k * (W0 d (lo k) * root) := fun d => by
    rw [pay8_at]; simp only [h7, h8]
  have hu : ∀ d, queries x0 x5 x6 x9 x10 (ix2 i d)
      = ∑ k, (∑ j, x j * qw k j + qb k) * (W1 d (hi k) * root) + b1 d * root := fun d => by
    unfold queries; rw [pay10_at]; simp only [hq, h9h, h10h]
  have hn : ∀ d, layerOne x0 x5 x6 x7 x8 x9 x10 x13 (ix3 i n d) + (x11 (ix2 0 d) + x7 (ix2 n d))
      = kerFirst v (fun d => ∑ k, x k * qw d k + qb d) b0 g0 be0 W0 d := fun d => by
    unfold layerOne kerFirst; rw [pay11_at]; simp only [pay9_at, hq, hv, h9l, h10l, h13, h11, h7]
  unfold slowScores slowFrom
  generalize layerOne x0 x5 x6 x7 x8 x9 x10 x13 = y at hn ⊢
  generalize queries x0 x5 x6 x9 x10 = u at hu ⊢
  have ha : ∀ d, k0_pay14 x7 u y x11 x12 (ix3 i n d)
      = kerSecond (kerFirst v (fun d => ∑ k, x k * qw d k + qb d) b0 g0 be0 W0) (fun d => ∑ k, x k * qw d k + qb d) b1 W1 d :=
    fun d => by rw [pay14_at]; unfold kerSecond; simp only [hn, hu, h12]
  rw [pay2_at, pay13_at, pay16_at, pay17_at]
  simp only [ha, hn, h14, h15, h16, h17]
  rfl

theorem fastAt_at (t : Fin cfg0.N) (i : Fin 128) (e : Fin 64) :
    fastAt m c t (ix2 i e)
      = ∑ h : Fin 1024, gelu (∑ k : Fin 2048, a_x m c (ix2 (rowIn t i) k) * a_fw1 m c (ix2 h k) + a_fb1 m c (ix1 h))
          * a_fw2 m c (ix2 e h) + a_fb2 m c (ix1 e) :=
  fastScores_of (w1 := fun h k => a_fw1 m c (ix2 h k)) (b1 := fun h => a_fb1 m c (ix1 h)) (fun k => tok_blk m c t i k)
    (fun k h => (blk1 m c t k h).trans (w1t_arr m c k h)) (fun h => (blk2 m c t 0 h).trans (b1s_arr m c h))
    (fun h => (blk3 m c t h e).trans (w2t_arr m c h e)) ((blk4 m c t 0 e).trans (b2r_arr m c e))

theorem slowAt_at (t : Fin cfg0.N) (i : Fin 128) (n : Fin 64) :
    slowAt m c t (ix2 i n)
      = kerScore (fun d => a_emb m c (ix2 n d)) (query m c (rowIn t i)) (fun d => a_b0 m c (ix1 d)) (fun d => a_g0 m c (ix1 d))
          (fun d => a_be0 m c (ix1 d)) (fun d => a_b1 m c (ix1 d)) (fun d => a_g1 m c (ix1 d)) (fun d => a_be1 m c (ix1 d))
          (fun d => a_ow m c (ix2 0 d)) (fun d k => a_w0 m c (ix2 d k)) (fun d k => a_w1 m c (ix2 d k)) (a_ob m c (ix1 0)) :=
  slowScores_of (x := fun k => a_x m c (ix2 (rowIn t i) k)) (qw := fun d k => a_qw m c (ix2 d k)) (qb := fun d => a_qb m c (ix1
      d))
    (v := fun d => a_emb m c (ix2 n d)) (b0 := fun d => a_b0 m c (ix1 d)) (g0 := fun d => a_g0 m c (ix1 d))
    (be0 := fun d => a_be0 m c (ix1 d)) (b1 := fun d => a_b1 m c (ix1 d)) (g1 := fun d => a_g1 m c (ix1 d))
    (be1 := fun d => a_be1 m c (ix1 d)) (ow := fun d => a_ow m c (ix2 0 d)) (W0 := fun d k => a_w0 m c (ix2 d k))
    (W1 := fun d k => a_w1 m c (ix2 d k))
    (fun k => tok_blk m c t i k) (fun k d => (blk5 m c t k d).trans (qwt_arr m c k d))
    (fun d => (blk6 m c t 0 d).trans (qbr_arr m c d)) (fun d => (blk7 m c t n d).trans (embr_arr m c n d))
    (fun k d => (blk8 m c t k d).trans (w0n_arr m c k d)) (fun k d => (blk9 m c t k (lo d)).trans (wq_lo_arr m c k d))
    (fun k d => (blk9 m c t k (hi d)).trans (wq_hi_arr m c k d)) (fun d => (blk10 m c t 0 (lo d)).trans (bq_lo_arr m c d))
    (fun d => (blk10 m c t 0 (hi d)).trans (bq_hi_arr m c d)) (fun d => (blk11 m c t 0 d).trans (be0r_arr m c d))
    (fun k d => (blk12 m c t k d).trans (w1n_arr m c k d)) (fun d => (blk13 m c t 0 d).trans (g0s_arr m c d))
    (fun d => (blk14 m c t 0 d).trans (g1ow_arr m c d)) ((blk15 m c t 0 0).trans (be1ow_arr m c))
    (fun d => (blk16 m c t 0 d).trans (owr_arr m c d)) ((blk17 m c t 0 0).trans (obr_arr m c))

/-- Row `r`'s token block is point `r / 128`'s, where it is row `r % 128`. -/
theorem rowIn_blockOf (r : Fin 8192) : rowIn (blockOf r) ⟨r.val % 128, Nat.mod_lt _ (by decide)⟩ = r :=
  Fin.ext (by have := r.isLt; simp only [rowIn, blockOf]; omega)

/-! ## Finite rows -/

/-- Every number of a row is real. -/
def RealRow (v : Fin 256 → EReal) : Prop := ∃ y : Fin 256 → ℝ, v = fun k => (y k : EReal)

/-- `score_agree` for rows and weights known to be real. -/
theorem score_agree_of {v q b0 g0 be0 b1 g1 be1 ow : Fin 256 → EReal} {W0 W1 : Fin 256 → Fin 512 → EReal} (ob : EReal)
    (hv : RealRow v) (hq : RealRow q) (hb0 : RealRow b0) (hg0 : RealRow g0) (hbe0 : RealRow be0) (hb1 : RealRow b1)
    (hg1 : RealRow g1) (how : RealRow ow)
    (hW0 : ∃ y : Fin 256 → Fin 512 → ℝ, W0 = fun d k => (y d k : EReal))
    (hW1 : ∃ y : Fin 256 → Fin 512 → ℝ, W1 = fun d k => (y d k : EReal)) :
    kerScore v q b0 g0 be0 b1 g1 be1 ow W0 W1 ob = refScore v q b0 g0 be0 b1 g1 be1 ow W0 W1 ob := by
  obtain ⟨_, rfl⟩ := hv; obtain ⟨_, rfl⟩ := hq; obtain ⟨_, rfl⟩ := hb0; obtain ⟨_, rfl⟩ := hg0; obtain ⟨_, rfl⟩ := hbe0
  obtain ⟨_, rfl⟩ := hb1; obtain ⟨_, rfl⟩ := hg1; obtain ⟨_, rfl⟩ := how
  obtain ⟨_, rfl⟩ := hW0; obtain ⟨_, rfl⟩ := hW1
  exact score_agree _ _ _ _ _ _ _ _ be1 _ _ ob

theorem AllReal.row1 {x : FVec Ideal S256 .f32} (h : AllReal x) : RealRow (fun d => x (ix1 d)) := by
  obtain ⟨y, hy⟩ := h; exact ⟨fun d => y (ix1 d), funext fun d => hy _⟩
theorem AllReal.row2 {a : ℕ} {x : FVec Ideal ⟨2, ![a, 256]⟩ .f32} (h : AllReal x) (n : Fin a) : RealRow (fun d => x (ix2 n d))
  := by
  obtain ⟨y, hy⟩ := h; exact ⟨fun d => y (ix2 n d), funext fun d => hy _⟩
theorem AllReal.weights {x : FVec Ideal S256x512 .f32} (h : AllReal x) :
    ∃ y : Fin 256 → Fin 512 → ℝ, (fun d k => x (ix2 d k)) = fun d k => (y d k : EReal) := by
  obtain ⟨y, hy⟩ := h; exact ⟨fun d k => y (ix2 d k), funext fun d => funext fun k => hy _⟩

theorem query_real (hx : AllReal (a_x m c)) (hw : AllReal (a_qw m c)) (hb : AllReal (a_qb m c)) (r : Fin 8192) :
    RealRow (query m c r) := by
  obtain ⟨x, hx⟩ := hx; obtain ⟨w, hw⟩ := hw; obtain ⟨b, hb⟩ := hb
  refine ⟨fun d => ∑ k : Fin 2048, x (ix2 r k) * w (ix2 d k) + b (ix1 d), funext fun d => ?_⟩
  unfold query
  simp only [hx, hw, hb, ← EReal.coe_mul]
  rw [coe_total, ← EReal.coe_add]

/-! ## The results -/

theorem fast_agree (r : Fin 8192) (e : Fin 64) :
    fastAt m c (blockOf r) (ix2 ⟨r.val % 128, Nat.mod_lt _ (by decide)⟩ e)
      = Cert.ReferenceIdeal.Read.val_main_v17 (F := Ideal) (a_x m c) (a_fw1 m c) (a_fb1 m c) (a_fw2 m c) (a_fb2 m c) (ix2 r e)
          := by
  rw [fastAt_at, rowIn_blockOf]
  exact (Ref.fast_at (a_x m c) (a_fw1 m c) (a_fb1 m c) (a_fw2 m c) (a_fb2 m c) r e).symm

/-- THE CONFIDENCES are the reference's. -/
theorem conf_agree : confOf m c = Cert.ReferenceIdeal.Read.val_main_v148 (F := Ideal) (a_x m c) (a_fw1 m c) (a_fb1 m c) (a_fw2 m
  c) (a_fb2 m c) := by
  funext j
  obtain ⟨r, z, rfl⟩ : ∃ (r : Fin 8192) (z : Fin 1), j = ix2 r z := ⟨j 0, j 1, eq_ix2 j⟩
  obtain rfl : z = 0 := Subsingleton.elim _ _
  refine Eq.trans ?_ (Ref.conf_at (a_x m c) (a_fw1 m c) (a_fb1 m c) (a_fw2 m c) (a_fb2 m c) r).symm
  refine (pay4_at (fastAt m c (blockOf r)) ⟨r.val % 128, Nat.mod_lt _ (by decide)⟩).trans ?_
  simp only [fast_agree]

/-- What the precondition says of the arguments on a device. -/
def SlowReal : Prop :=
  AllReal (a_x m c) ∧ AllReal (a_emb m c) ∧ AllReal (a_qw m c) ∧ AllReal (a_qb m c) ∧ AllReal (a_ow m c) ∧ AllReal (a_w0 m c)
    ∧ AllReal (a_b0 m c) ∧ AllReal (a_g0 m c) ∧ AllReal (a_be0 m c) ∧ AllReal (a_w1 m c) ∧ AllReal (a_b1 m c)
    ∧ AllReal (a_g1 m c)

variable (hr : SlowReal m c)
include hr

theorem slow_agree (r : Fin 8192) (n : Fin 64) :
    slowAt m c (blockOf r) (ix2 ⟨r.val % 128, Nat.mod_lt _ (by decide)⟩ n)
      = Cert.ReferenceIdeal.Read.val_main_v112 (F := Ideal) (a_x m c) (a_emb m c) (a_qw m c) (a_qb m c) (a_ow m c) (a_ob m c)
          (a_w0 m c) (a_b0 m c) (a_g0 m c) (a_be0 m c) (a_w1 m c) (a_b1 m c) (a_g1 m c) (a_be1 m c) (ix2 r n) := by
  obtain ⟨hx, hemb, hqw, hqb, how, hw0, hb0, hg0, hbe0, hw1, hb1, hg1⟩ := hr
  rw [slowAt_at, rowIn_blockOf]
  refine Eq.trans ?_ (Ref.score_at (a_x m c) (a_emb m c) (a_qw m c) (a_qb m c) (a_ow m c) (a_ob m c) (a_w0 m c) (a_b0 m c) (a_g0
      m c) (a_be0 m c) (a_w1 m c) (a_b1 m c) (a_g1 m c) (a_be1 m c) r n).symm
  exact score_agree_of _ (hemb.row2 n) (query_real m c hx hqw hqb r) hb0.row1 hg0.row1 hbe0.row1 hb1.row1 hg1.row1
    (how.row2 0) hw0.weights hw1.weights

/-- THE PROBABILITIES are the reference's. -/
theorem probs_agree : probsOf m c = Cert.ReferenceIdeal.Read.val_main_v147 (F := Ideal) (a_x m c) (a_fw1 m c) (a_fb1 m c) (a_fw2
  m c) (a_fb2 m c) (a_emb m c) (a_qw m c) (a_qb m c) (a_ow m c) (a_ob m c) (a_w0 m c) (a_b0 m c) (a_g0 m c) (a_be0 m c) (a_w1 m
  c) (a_b1 m c) (a_g1 m c) (a_be1 m c) := by
  funext j
  obtain ⟨r, e, rfl⟩ : ∃ (r : Fin 8192) (e : Fin 64), j = ix2 r e := ⟨j 0, j 1, eq_ix2 j⟩
  refine Eq.trans ?_ (Ref.probs_at (a_x m c) (a_fw1 m c) (a_fb1 m c) (a_fw2 m c) (a_fb2 m c) (a_emb m c) (a_qw m c) (a_qb m c)
      (a_ow m c) (a_ob m c) (a_w0 m c) (a_b0 m c) (a_g0 m c) (a_be0 m c) (a_w1 m c) (a_b1 m c) (a_g1 m c) (a_be1 m c) r e).symm
  refine (pay5_at (fastAt m c (blockOf r)) (slowAt m c (blockOf r)) ⟨r.val % 128, Nat.mod_lt _ (by decide)⟩ e).trans ?_
  simp only [fast_agree, slow_agree m c hr]

end Cert.Router

end
-- ==== Proof.Words.lean ====
/-
  The kernel on hardware words. Its text is that of the program which names the root of one half, with the name's word in the
  name's place. So where a name is read as its word the two programs are one, and the run proved of the one is the run of the other.
-/
module

public import proofs.«01_k».proof.Defs
public import proofs.«01_k».proof.Proof.Gen.Kernel
public import proofs.«01_k».proof.Proof.Results

@[expose] public section

set_option maxRecDepth 16384

noncomputable section

namespace Cert.Router

open Idealize.ShloMosaic Idealize.ShloMosaic.TcCoe Idealize.SL.Sem

/-- A named constant read as its word. -/
abbrev byWord : Named Bits where
  named _ _ {φ} w := Scalar.ofBits φ w

/-- The two bodies are one. -/
theorem body_same : @Cert.Kernel.cc0__body Bits _ _ = @Cert.KernelIdeal.cc0__body Bits _ byWord _ := (rfl)

/-- Two families over one index agree where their one member does. -/
theorem eq_of_zero {β : Fin 1 → Sort*} {f g : (l : Fin 1) → β l} (h : f 0 = g 0) : f = g :=
  funext fun l => by obtain rfl : l = 0 := Subsingleton.elim _ _; exact h

set_option maxHeartbeats 4000000 in
/-- The two tables of bodies are one. -/
theorem bodies_same : @Cert.Kernel.defs₀ Bits _ _ = @Cert.KernelIdeal.defs₀ Bits _ byWord _ := by
  unfold Cert.Kernel.defs₀ Cert.KernelIdeal.defs₀
  refine congrArg Defs.onTc (eq_of_zero (funext fun a => ?_))
  obtain ⟨t, s⟩ := a
  show Cert.Kernel.cc0__body _ _ _ _ _ _ _ _ _ _ _ _ _ _ _ _ _ _ _ _ _ _ _ _ _ _ _ _ _ _ _ _ _ _ _ _ _ _ _ _ _ _ _ _ _ = _
  rw [body_same]
  rfl

set_option maxHeartbeats 4000000 in
/-- The two tables with the pipeline's own entries are one. -/
theorem defs_same : @Cert.Kernel.defs Bits _ _ = @Cert.KernelIdeal.defs Bits _ byWord _ :=
  congrArg (Pipeline.defs (Cert.KernelIdeal.pcfgs (F := Bits))) bodies_same

set_option maxHeartbeats 4000000 in
/-- The two host programs are one. -/
theorem main_same : @Cert.Kernel.main Bits _ _ = @Cert.KernelIdeal.main Bits _ _ := (rfl)

set_option maxHeartbeats 4000000 in
/-- The kernel on words leaves its arguments and counters as they were. -/
theorem kernel_quiet : Cert.quiescent_Kernel := by
  intro m ρ _
  letI := byWord
  have h := run_quiet (F := Bits) m ρ
  rw [← defs_same, ← main_same] at h
  exact h

end Cert.Router

end
-- ==== Proof.lean ====
/-
  The proof of the claims of the token router. The kernel's run on hardware words is Proof/Words.lean's; at the exact
  instance its run and results are Proof/Results.lean's, the reference's run is generated, and the two programs' results are the same
  functions of the arguments by Proof/Agree.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_slow_finite
public import proofs.«01_k».proof.Proof.Gen.ReferenceIdeal.Run
public import proofs.«01_k».proof.Proof.Gen.ReferenceIdeal.Read
public import proofs.«01_k».proof.Proof.Agree
public import proofs.«01_k».proof.Proof.Words
public import Idealize.ShloMosaic.Lib.Quiescent

@[expose] public section

set_option maxRecDepth 16384

noncomputable section

namespace Cert.Proof

open Idealize.ShloMosaic Idealize.ShloMosaic.TcCoe Idealize.SL.Sem Cert.Router

/-! ## The arguments are left as they were -/

theorem kernel_exact_quiet : Cert.quiescent_KernelIdeal := fun m ρ _ =>
  run_quiet m ρ

theorem kernel_exact_quiet_finite : Cert.quiescent_KernelIdeal_pre_slow_finite := fun m ρ _ =>
  run_quiet m ρ

theorem reference_quiet : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem reference_quiet_finite : Cert.quiescent_ReferenceIdeal_pre_slow_finite := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The named constant -/

theorem named : Cert.preserves_Kernel_KernelIdeal :=
  IdealRules.named_const.statement Cert.KernelIdeal.κ "root_half" .f32 0x3F3504F3#32 (((Real.sqrt 2)⁻¹ : ℝ) : EReal) rfl

/-! ## The results agree -/

theorem results_agree : Cert.algebraic_KernelIdeal_ReferenceIdeal_pre_slow_finite := by
  intro m ρ m' ρ' hpre hargs
  refine ⟨probsOf m, confOf m, (θ_run Cert.KernelIdeal.defs _ _).mono (fun _ h => h.1) (run_results m ρ), ?_⟩
  refine (θ_run Cert.ReferenceIdeal.defs _ _).mono (fun r h c => ?_) (Cert.ReferenceIdeal.Value.run (F := Ideal) m' ρ')
  obtain ⟨h0, h1, hu⟩ := h c
  have hr : SlowReal m c := finite_of_pre _ _ _ _ _ _ _ _ _ _ _ _ _ _ _ _ _ _ (hpre c)
  obtain ⟨e0, e1, e2, e3, e4, e5, e6, e7, e8, e9, e10, e11, e12, e13, e14, e15, e16, e17⟩ := hargs c
  refine ⟨(h0.trans (Cert.ReferenceIdeal.Read.val_main_v147_eq (StableHlo.launchContents m' c))).trans ?_,
    (h1.trans (Cert.ReferenceIdeal.Read.val_main_v148_eq (StableHlo.launchContents m' c))).trans ?_, hu⟩
  · show Cert.ReferenceIdeal.Read.val_main_v147 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        = _
    rw [e0, e1, e2, e3, e4, e5, e6, e7, e8, e9, e10, e11, e12, e13, e14, e15, e16, e17]
    exact (probs_agree m c hr).symm
  · show Cert.ReferenceIdeal.Read.val_main_v148 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        = _
    rw [e0, e1, e2, e3, e4]
    exact (conf_agree m c).symm

theorem claim : Cert.Claim :=
  ⟨Cert.Kernel.Gen.facts, Cert.KernelIdeal.Gen.facts, Cert.ReferenceIdeal.Gen.facts, Cert.Pre_slow_finite.Gen.facts,
    kernel_quiet, kernel_exact_quiet, kernel_exact_quiet_finite, reference_quiet,
    reference_quiet_finite, named, results_agree⟩

end Cert.Proof

end
